-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_finite [hPre_x_finite : Cert.Pre_x_finite.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite [hPre_x_finite : Cert.Pre_x_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_x_finite [hKernelIdeal : Cert.KernelIdeal.Facts] [hPre_x_finite : Cert.Pre_x_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_x_finite [hReferenceIdeal : Cert.ReferenceIdeal.Facts] [hPre_x_finite : Cert.Pre_x_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_x_finite [hKernelIdeal : Cert.KernelIdeal.Facts] [hReferenceIdeal : Cert.ReferenceIdeal.Facts] [hPre_x_finite : Cert.Pre_x_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_x_finite : Cert.Pre_x_finite.Facts),
    quiescent_Kernel (hKernel := hKernel)
    ∧ quiescent_KernelIdeal (hKernelIdeal := hKernelIdeal)
    ∧ quiescent_KernelIdeal_pre_x_finite (hKernelIdeal := hKernelIdeal) (hPre_x_finite := hPre_x_finite)
    ∧ quiescent_ReferenceIdeal (hReferenceIdeal := hReferenceIdeal)
    ∧ quiescent_ReferenceIdeal_pre_x_finite (hReferenceIdeal := hReferenceIdeal) (hPre_x_finite := hPre_x_finite)
    ∧ preserves_Kernel_KernelIdeal
    ∧ algebraic_KernelIdeal_ReferenceIdeal_pre_x_finite (hKernelIdeal := hKernelIdeal) (hReferenceIdeal := hReferenceIdeal) (hPre_x_finite := hPre_x_finite)
-- ==== Pre_x_finite.lean ====
abbrev S3x1152x6144 : Shape := ⟨3, ![3, 1152, 6144]⟩
abbrev S6144 : Shape := ⟨1, ![6144]⟩
abbrev S16 : Shape := ⟨1, ![16]⟩
abbrev S16384x3072 : Shape := ⟨2, ![16384, 3072]⟩
abbrev S16384x6 : Shape := ⟨2, ![16384, 6]⟩
abbrev S_ : Shape := ⟨0, ![]⟩

class Facts : Prop where
  bcast_S_S3x1152x6144 : S_.BroadcastsInDim S3x1152x6144 (![] : Fin 0 → Fin S3x1152x6144.rank)

variable [Facts]

def fn {F : FTy → Type} [FloatOps F] (main_arg0 : FVec F S3x1152x6144 .bf16) (main_arg1 : IVec S6144 8) (main_arg2 : IVec S16 16) (main_arg3 : IVec S16384x3072 8) (main_arg4 : FVec F S16384x6 .f32) : IVec S3x1152x6144 1 :=
  let main_v0 : FVec F S3x1152x6144 .bf16 := Host.absf main_arg0
  let main_cst : FVec F S_ .bf16 := constant S_ .bf16 0x7F80#16
  let main_v1 : FVec F S3x1152x6144 .bf16 := broadcastInDim S3x1152x6144 ![] bcast_S_S3x1152x6144 main_cst
  let main_v2 : IVec S3x1152x6144 1 := cmpf .olt main_v0 main_v1
  main_v2
-- ==== Kernel.lean ====
abbrev S3x1152x6144 : Shape := ⟨3, ![3, 1152, 6144]⟩
abbrev S6144 : Shape := ⟨1, ![6144]⟩
abbrev S16 : Shape := ⟨1, ![16]⟩
abbrev S16384x3072 : Shape := ⟨2, ![16384, 3072]⟩
abbrev S16384x6 : Shape := ⟨2, ![16384, 6]⟩
abbrev S3456x6144 : Shape := ⟨2, ![3456, 6144]⟩
abbrev S1x6144 : Shape := ⟨2, ![1, 6144]⟩
abbrev S432x6144 : Shape := ⟨2, ![432, 6144]⟩
abbrev S256x256 : Shape := ⟨2, ![256, 256]⟩
abbrev S432x256 : Shape := ⟨2, ![432, 256]⟩
abbrev S1x256 : Shape := ⟨2, ![1, 256]⟩
abbrev S256 : Shape := ⟨1, ![256]⟩
abbrev S_ : Shape := ⟨0, ![]⟩
abbrev S256x1 : Shape := ⟨2, ![256, 1]⟩
abbrev S2x128 : Shape := ⟨2, ![2, 128]⟩
abbrev S2x8x128 : Shape := ⟨3, ![2, 8, 128]⟩
abbrev S16x128 : Shape := ⟨2, ![16, 128]⟩
abbrev S6x16384 : Shape := ⟨2, ![6, 16384]⟩
abbrev S3456x16384 : Shape := ⟨2, ![3456, 16384]⟩
abbrev S864x6144 : Shape := ⟨2, ![864, 6144]⟩
abbrev S512x3072 : Shape := ⟨2, ![512, 3072]⟩
abbrev S6x512 : Shape := ⟨2, ![6, 512]⟩
abbrev S864x512 : Shape := ⟨2, ![864, 512]⟩
abbrev S6144x512 : Shape := ⟨2, ![6144, 512]⟩
abbrev S8x128 : Shape := ⟨2, ![8, 128]⟩
abbrev S128x128 : Shape := ⟨2, ![128, 128]⟩
abbrev S1x128 : Shape := ⟨2, ![1, 128]⟩
abbrev S8x128x1 : Shape := ⟨3, ![8, 128, 1]⟩
abbrev S3x1152x16384 : Shape := ⟨3, ![3, 1152, 16384]⟩

abbrev nBuf : Space → Nat
  | .hbm => 47
  | .vmem => 15
  | .smem => 0
  | _ => 0

abbrev bufTy : (tb : Table) → Fin (tcTables nBuf tb) → BufTy
  | .hbm, ⟨0, _⟩ => ⟨S3x1152x6144, .bf16⟩
  | .hbm, ⟨1, _⟩ => ⟨S6144, .i8⟩
  | .hbm, ⟨2, _⟩ => ⟨S16, .i16⟩
  | .hbm, ⟨3, _⟩ => ⟨S16384x3072, .i8⟩
  | .hbm, ⟨4, _⟩ => ⟨S16384x6, .f32⟩
  | .hbm, ⟨5, _⟩ => ⟨S3456x6144, .bf16⟩
  | .hbm, ⟨6, _⟩ => ⟨S1x6144, .i8⟩
  | .hbm, ⟨7, _⟩ => ⟨S3456x6144, .bf16⟩
  | .hbm, ⟨8, _⟩ => ⟨S16, .i32⟩
  | .hbm, ⟨9, _⟩ => ⟨S256, .i32⟩
  | .hbm, ⟨10, _⟩ => ⟨S_, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S_, .i32⟩
  | .hbm, ⟨17, _⟩ => ⟨S256, .i32⟩
  | .hbm, ⟨18, _⟩ => ⟨S256, .i32⟩
  | .hbm, ⟨19, _⟩ => ⟨S256, .i32⟩
  | .hbm, ⟨20, _⟩ => ⟨S256x1, .i32⟩
  | .hbm, ⟨21, _⟩ => ⟨S256, .i32⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S_, .i32⟩
  | .hbm, ⟨26, _⟩ => ⟨S256, .i32⟩
  | .hbm, ⟨27, _⟩ => ⟨S256, .i1⟩
  | .hbm, ⟨28, _⟩ => ⟨S_, .i32⟩
  | .hbm, ⟨29, _⟩ => ⟨S256, .i32⟩
  | .hbm, ⟨30, _⟩ => ⟨S256, .i32⟩
  | .hbm, ⟨31, _⟩ => ⟨S256, .i32⟩
  | .hbm, ⟨32, _⟩ => ⟨S256x1, .i32⟩
  | .hbm, ⟨33, _⟩ => ⟨S256, .i32⟩
  | .hbm, ⟨34, _⟩ => ⟨S_, .i32⟩
  | .hbm, ⟨35, _⟩ => ⟨S256, .i32⟩
  | .hbm, ⟨36, _⟩ => ⟨S256, .i32⟩
  | .hbm, ⟨37, _⟩ => ⟨S256, .i32⟩
  | .hbm, ⟨38, _⟩ => ⟨S256, .i32⟩
  | .hbm, ⟨39, _⟩ => ⟨S2x128, .i32⟩
  | .hbm, ⟨40, _⟩ => ⟨S2x8x128, .i32⟩
  | .hbm, ⟨41, _⟩ => ⟨S16x128, .i32⟩
  | .hbm, ⟨42, _⟩ => ⟨S16384x6, .bf16⟩
  | .hbm, ⟨43, _⟩ => ⟨S6x16384, .bf16⟩
  | .hbm, ⟨44, _⟩ => ⟨S3456x16384, .bf16⟩
  | .hbm, ⟨45, _⟩ => ⟨S3x1152x16384, .bf16⟩
  | .hbm, ⟨46, _⟩ => ⟨S3x1152x6144, .bf16⟩
  | .local _ .vmem, ⟨0, _⟩ => ⟨S432x6144, .bf16⟩
  | .local _ .vmem, ⟨1, _⟩ => ⟨S432x6144, .bf16⟩
  | .local _ .vmem, ⟨2, _⟩ => ⟨S1x6144, .i8⟩
  | .local _ .vmem, ⟨3, _⟩ => ⟨S432x6144, .bf16⟩
  | .local _ .vmem, ⟨4, _⟩ => ⟨S432x6144, .bf16⟩
  | .local _ .vmem, ⟨5, _⟩ => ⟨S864x6144, .bf16⟩
  | .local _ .vmem, ⟨6, _⟩ => ⟨S864x6144, .bf16⟩
  | .local _ .vmem, ⟨7, _⟩ => ⟨S16x128, .i32⟩
  | .local _ .vmem, ⟨8, _⟩ => ⟨S512x3072, .i8⟩
  | .local _ .vmem, ⟨9, _⟩ => ⟨S512x3072, .i8⟩
  | .local _ .vmem, ⟨10, _⟩ => ⟨S6x512, .bf16⟩
  | .local _ .vmem, ⟨11, _⟩ => ⟨S6x512, .bf16⟩
  | .local _ .vmem, ⟨12, _⟩ => ⟨S864x512, .bf16⟩
  | .local _ .vmem, ⟨13, _⟩ => ⟨S864x512, .bf16⟩
  | .local _ .vmem, ⟨14, _⟩ => ⟨S6144x512, .bf16⟩
  | _, _ => ⟨S3x1152x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S432x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6144 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S432x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S864x6144 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S16x128 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x3072 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S6x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S864x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceIdeal.lean ====
abbrev S3x1152x6144 : Shape := ⟨3, ![3, 1152, 6144]⟩
abbrev S6144 : Shape := ⟨1, ![6144]⟩
abbrev S16 : Shape := ⟨1, ![16]⟩
abbrev S16384x3072 : Shape := ⟨2, ![16384, 3072]⟩
abbrev S16384x6 : Shape := ⟨2, ![16384, 6]⟩
abbrev S1024x1024 : Shape := ⟨2, ![1024, 1024]⟩
abbrev S_ : Shape := ⟨0, ![]⟩
abbrev S6x1024 : Shape := ⟨2, ![6, 1024]⟩
abbrev S3x1152x6x1024 : Shape := ⟨4, ![3, 1152, 6, 1024]⟩
abbrev S1x1x6x1024 : Shape := ⟨4, ![1, 1, 6, 1024]⟩
abbrev S16384x6x512 : Shape := ⟨3, ![16384, 6, 512]⟩
abbrev S16384x6x1 : Shape := ⟨3, ![16384, 6, 1]⟩
abbrev S1 : Shape := ⟨1, ![1]⟩
abbrev S3x1152x6x512x2 : Shape := ⟨5, ![3, 1152, 6, 512, 2]⟩
abbrev S3x1152x6x512x1 : Shape := ⟨5, ![3, 1152, 6, 512, 1]⟩
abbrev S3x1152x6x512 : Shape := ⟨4, ![3, 1152, 6, 512]⟩
abbrev S3x1152x16384 : Shape := ⟨3, ![3, 1152, 16384]⟩

abbrev nBuf : Space → Nat
  | .hbm => 256
  | .vmem => 0
  | .smem => 0
  | _ => 0

abbrev hbmTy0_0 (i : Nat) : BufTy := match i % 128 with
  | 0 => ⟨S3x1152x6144, .bf16⟩
  | 1 => ⟨S6144, .i8⟩
  | 2 => ⟨S16, .i16⟩
  | 3 => ⟨S16384x3072, .i8⟩
  | 4 => ⟨S16384x6, .f32⟩
  | 5 => ⟨S16, .bf16⟩
  | 6 => ⟨S1024x1024, .i32⟩
  | 7 => ⟨S1024x1024, .i32⟩
  | 8 => ⟨S1024x1024, .i32⟩
  | 9 => ⟨S1024x1024, .i32⟩
  | 10 => ⟨S_, .i32⟩
  | 11 => ⟨S1024x1024, .i32⟩
  | 12 => ⟨S1024x1024, .i32⟩
  | 13 => ⟨S_, .i32⟩
  | 14 => ⟨S1024x1024, .i32⟩
  | 15 => ⟨S1024x1024, .i32⟩
  | 16 => ⟨S_, .i32⟩
  | 17 => ⟨S1024x1024, .i32⟩
  | 18 => ⟨S1024x1024, .i32⟩
  | 19 => ⟨S1024x1024, .f32⟩
  | 20 => ⟨S1024x1024, .bf16⟩
  | 21 => ⟨S6144, .i32⟩
  | 22 => ⟨S6144, .f32⟩
  | 23 => ⟨S6144, .bf16⟩
  | 24 => ⟨S6x1024, .bf16⟩
  | 25 => ⟨S3x1152x6x1024, .bf16⟩
  | 26 => ⟨S1x1x6x1024, .bf16⟩
  | 27 => ⟨S3x1152x6x1024, .bf16⟩
  | 28 => ⟨S3x1152x6x1024, .bf16⟩
  | 29 => ⟨S3x1152x6x1024, .f32⟩
  | 30 => ⟨S_, .f32⟩
  | 31 => ⟨S3x1152x6x1024, .f32⟩
  | 32 => ⟨S3x1152x6x1024, .f32⟩
  | 33 => ⟨S3x1152x6x1024, .bf16⟩
  | 34 => ⟨S3x1152x6144, .bf16⟩
  | 35 => ⟨S16384x3072, .i32⟩
  | 36 => ⟨S16384x6x512, .i32⟩
  | 37 => ⟨S16384x6, .bf16⟩
  | 38 => ⟨S16384x6x1, .bf16⟩
  | 39 => ⟨S_, .i32⟩
  | 40 => ⟨S16384x6x512, .i32⟩
  | 41 => ⟨S16384x6x512, .i32⟩
  | 42 => ⟨S1, .bf16⟩
  | 43 => ⟨S_, .bf16⟩
  | 44 => ⟨S1, .bf16⟩
  | 45 => ⟨S_, .bf16⟩
  | 46 => ⟨S1, .bf16⟩
  | 47 => ⟨S_, .bf16⟩
  | 48 => ⟨S1, .bf16⟩
  | 49 => ⟨S_, .bf16⟩
  | 50 => ⟨S1, .bf16⟩
  | 51 => ⟨S_, .bf16⟩
  | 52 => ⟨S1, .bf16⟩
  | 53 => ⟨S_, .bf16⟩
  | 54 => ⟨S1, .bf16⟩
  | 55 => ⟨S_, .bf16⟩
  | 56 => ⟨S1, .bf16⟩
  | 57 => ⟨S_, .bf16⟩
  | 58 => ⟨S1, .bf16⟩
  | 59 => ⟨S_, .bf16⟩
  | 60 => ⟨S1, .bf16⟩
  | 61 => ⟨S_, .bf16⟩
  | 62 => ⟨S1, .bf16⟩
  | 63 => ⟨S_, .bf16⟩
  | 64 => ⟨S1, .bf16⟩
  | 65 => ⟨S_, .bf16⟩
  | 66 => ⟨S1, .bf16⟩
  | 67 => ⟨S_, .bf16⟩
  | 68 => ⟨S1, .bf16⟩
  | 69 => ⟨S_, .bf16⟩
  | 70 => ⟨S1, .bf16⟩
  | 71 => ⟨S_, .bf16⟩
  | 72 => ⟨S1, .bf16⟩
  | 73 => ⟨S_, .bf16⟩
  | 74 => ⟨S_, .i32⟩
  | 75 => ⟨S16384x6x512, .i32⟩
  | 76 => ⟨S16384x6x512, .i32⟩
  | 77 => ⟨S_, .i32⟩
  | 78 => ⟨S16384x6x512, .i32⟩
  | 79 => ⟨S16384x6x512, .i32⟩
  | 80 => ⟨S_, .i32⟩
  | 81 => ⟨S16384x6x512, .i32⟩
  | 82 => ⟨S16384x6x512, .i1⟩
  | 83 => ⟨S16384x6x512, .bf16⟩
  | 84 => ⟨S16384x6x512, .bf16⟩
  | 85 => ⟨S16384x6x512, .bf16⟩
  | 86 => ⟨S16384x6x512, .bf16⟩
  | 87 => ⟨S16384x6x512, .bf16⟩
  | 88 => ⟨S16384x6x512, .bf16⟩
  | 89 => ⟨S16384x6x512, .bf16⟩
  | 90 => ⟨S16384x6x512, .bf16⟩
  | 91 => ⟨S16384x6x512, .bf16⟩
  | 92 => ⟨S16384x6x512, .bf16⟩
  | 93 => ⟨S16384x6x512, .bf16⟩
  | 94 => ⟨S16384x6x512, .bf16⟩
  | 95 => ⟨S16384x6x512, .bf16⟩
  | 96 => ⟨S16384x6x512, .bf16⟩
  | 97 => ⟨S16384x6x512, .bf16⟩
  | 98 => ⟨S16384x6x512, .bf16⟩
  | 99 => ⟨S16384x6x512, .bf16⟩
  | 100 => ⟨S16384x6x512, .bf16⟩
  | 101 => ⟨S16384x6x512, .bf16⟩
  | 102 => ⟨S16384x6x512, .bf16⟩
  | 103 => ⟨S16384x6x512, .bf16⟩
  | 104 => ⟨S16384x6x512, .bf16⟩
  | 105 => ⟨S16384x6x512, .bf16⟩
  | 106 => ⟨S16384x6x512, .bf16⟩
  | 107 => ⟨S_, .i32⟩
  | 108 => ⟨S16384x6x512, .i32⟩
  | 109 => ⟨S16384x6x512, .i32⟩
  | 110 => ⟨S_, .i32⟩
  | 111 => ⟨S16384x6x512, .i32⟩
  | 112 => ⟨S16384x6x512, .i32⟩
  | 113 => ⟨S_, .i32⟩
  | 114 => ⟨S16384x6x512, .i32⟩
  | 115 => ⟨S16384x6x512, .i1⟩
  | 116 => ⟨S16384x6x512, .bf16⟩
  | 117 => ⟨S16384x6x512, .bf16⟩
  | 118 => ⟨S16384x6x512, .bf16⟩
  | 119 => ⟨S16384x6x512, .bf16⟩
  | 120 => ⟨S_, .i32⟩
  | 121 => ⟨S16384x6x512, .i32⟩
  | 122 => ⟨S16384x6x512, .i32⟩
  | 123 => ⟨S_, .i32⟩
  | 124 => ⟨S16384x6x512, .i32⟩
  | 125 => ⟨S16384x6x512, .i32⟩
  | 126 => ⟨S_, .i32⟩
  | 127 => ⟨S16384x6x512, .i32⟩
  | _ => ⟨S3x1152x6144, .bf16⟩

abbrev hbmTy0_1 (i : Nat) : BufTy := match i % 128 with
  | 0 => ⟨S16384x6x512, .i1⟩
  | 1 => ⟨S16384x6x512, .bf16⟩
  | 2 => ⟨S16384x6x512, .bf16⟩
  | 3 => ⟨S_, .i32⟩
  | 4 => ⟨S16384x6x512, .i32⟩
  | 5 => ⟨S16384x6x512, .i32⟩
  | 6 => ⟨S_, .i32⟩
  | 7 => ⟨S16384x6x512, .i32⟩
  | 8 => ⟨S16384x6x512, .i32⟩
  | 9 => ⟨S_, .i32⟩
  | 10 => ⟨S16384x6x512, .i32⟩
  | 11 => ⟨S16384x6x512, .i1⟩
  | 12 => ⟨S16384x6x512, .bf16⟩
  | 13 => ⟨S16384x6x512, .bf16⟩
  | 14 => ⟨S16384x6x512, .bf16⟩
  | 15 => ⟨S_, .i32⟩
  | 16 => ⟨S16384x6x512, .i32⟩
  | 17 => ⟨S16384x6x512, .i32⟩
  | 18 => ⟨S1, .bf16⟩
  | 19 => ⟨S_, .bf16⟩
  | 20 => ⟨S1, .bf16⟩
  | 21 => ⟨S_, .bf16⟩
  | 22 => ⟨S1, .bf16⟩
  | 23 => ⟨S_, .bf16⟩
  | 24 => ⟨S1, .bf16⟩
  | 25 => ⟨S_, .bf16⟩
  | 26 => ⟨S1, .bf16⟩
  | 27 => ⟨S_, .bf16⟩
  | 28 => ⟨S1, .bf16⟩
  | 29 => ⟨S_, .bf16⟩
  | 30 => ⟨S1, .bf16⟩
  | 31 => ⟨S_, .bf16⟩
  | 32 => ⟨S1, .bf16⟩
  | 33 => ⟨S_, .bf16⟩
  | 34 => ⟨S1, .bf16⟩
  | 35 => ⟨S_, .bf16⟩
  | 36 => ⟨S1, .bf16⟩
  | 37 => ⟨S_, .bf16⟩
  | 38 => ⟨S1, .bf16⟩
  | 39 => ⟨S_, .bf16⟩
  | 40 => ⟨S1, .bf16⟩
  | 41 => ⟨S_, .bf16⟩
  | 42 => ⟨S1, .bf16⟩
  | 43 => ⟨S_, .bf16⟩
  | 44 => ⟨S1, .bf16⟩
  | 45 => ⟨S_, .bf16⟩
  | 46 => ⟨S1, .bf16⟩
  | 47 => ⟨S_, .bf16⟩
  | 48 => ⟨S1, .bf16⟩
  | 49 => ⟨S_, .bf16⟩
  | 50 => ⟨S_, .i32⟩
  | 51 => ⟨S16384x6x512, .i32⟩
  | 52 => ⟨S16384x6x512, .i32⟩
  | 53 => ⟨S_, .i32⟩
  | 54 => ⟨S16384x6x512, .i32⟩
  | 55 => ⟨S16384x6x512, .i32⟩
  | 56 => ⟨S_, .i32⟩
  | 57 => ⟨S16384x6x512, .i32⟩
  | 58 => ⟨S16384x6x512, .i1⟩
  | 59 => ⟨S16384x6x512, .bf16⟩
  | 60 => ⟨S16384x6x512, .bf16⟩
  | 61 => ⟨S16384x6x512, .bf16⟩
  | 62 => ⟨S16384x6x512, .bf16⟩
  | 63 => ⟨S16384x6x512, .bf16⟩
  | 64 => ⟨S16384x6x512, .bf16⟩
  | 65 => ⟨S16384x6x512, .bf16⟩
  | 66 => ⟨S16384x6x512, .bf16⟩
  | 67 => ⟨S16384x6x512, .bf16⟩
  | 68 => ⟨S16384x6x512, .bf16⟩
  | 69 => ⟨S16384x6x512, .bf16⟩
  | 70 => ⟨S16384x6x512, .bf16⟩
  | 71 => ⟨S16384x6x512, .bf16⟩
  | 72 => ⟨S16384x6x512, .bf16⟩
  | 73 => ⟨S16384x6x512, .bf16⟩
  | 74 => ⟨S16384x6x512, .bf16⟩
  | 75 => ⟨S16384x6x512, .bf16⟩
  | 76 => ⟨S16384x6x512, .bf16⟩
  | 77 => ⟨S16384x6x512, .bf16⟩
  | 78 => ⟨S16384x6x512, .bf16⟩
  | 79 => ⟨S16384x6x512, .bf16⟩
  | 80 => ⟨S16384x6x512, .bf16⟩
  | 81 => ⟨S16384x6x512, .bf16⟩
  | 82 => ⟨S16384x6x512, .bf16⟩
  | 83 => ⟨S_, .i32⟩
  | 84 => ⟨S16384x6x512, .i32⟩
  | 85 => ⟨S16384x6x512, .i32⟩
  | 86 => ⟨S_, .i32⟩
  | 87 => ⟨S16384x6x512, .i32⟩
  | 88 => ⟨S16384x6x512, .i32⟩
  | 89 => ⟨S_, .i32⟩
  | 90 => ⟨S16384x6x512, .i32⟩
  | 91 => ⟨S16384x6x512, .i1⟩
  | 92 => ⟨S16384x6x512, .bf16⟩
  | 93 => ⟨S16384x6x512, .bf16⟩
  | 94 => ⟨S16384x6x512, .bf16⟩
  | 95 => ⟨S16384x6x512, .bf16⟩
  | 96 => ⟨S_, .i32⟩
  | 97 => ⟨S16384x6x512, .i32⟩
  | 98 => ⟨S16384x6x512, .i32⟩
  | 99 => ⟨S_, .i32⟩
  | 100 => ⟨S16384x6x512, .i32⟩
  | 101 => ⟨S16384x6x512, .i32⟩
  | 102 => ⟨S_, .i32⟩
  | 103 => ⟨S16384x6x512, .i32⟩
  | 104 => ⟨S16384x6x512, .i1⟩
  | 105 => ⟨S16384x6x512, .bf16⟩
  | 106 => ⟨S16384x6x512, .bf16⟩
  | 107 => ⟨S_, .i32⟩
  | 108 => ⟨S16384x6x512, .i32⟩
  | 109 => ⟨S16384x6x512, .i32⟩
  | 110 => ⟨S_, .i32⟩
  | 111 => ⟨S16384x6x512, .i32⟩
  | 112 => ⟨S16384x6x512, .i32⟩
  | 113 => ⟨S_, .i32⟩
  | 114 => ⟨S16384x6x512, .i32⟩
  | 115 => ⟨S16384x6x512, .i1⟩
  | 116 => ⟨S16384x6x512, .bf16⟩
  | 117 => ⟨S16384x6x512, .bf16⟩
  | 118 => ⟨S16384x6x512, .bf16⟩
  | 119 => ⟨S3x1152x6x512x2, .bf16⟩
  | 120 => ⟨S3x1152x6x512x1, .bf16⟩
  | 121 => ⟨S3x1152x6x512, .bf16⟩
  | 122 => ⟨S3x1152x16384, .f32⟩
  | 123 => ⟨S3x1152x6x512x1, .bf16⟩
  | 124 => ⟨S3x1152x6x512, .bf16⟩
  | 125 => ⟨S3x1152x16384, .f32⟩
  | 126 => ⟨S3x1152x16384, .f32⟩
  | 127 => ⟨S3x1152x16384, .bf16⟩
  | _ => ⟨S3x1152x6144, .bf16⟩

abbrev hbmTy (i : Nat) : BufTy := match i / 128 with
  | 0 => hbmTy0_0 i
  | 1 => hbmTy0_1 i
  | _ => ⟨S3x1152x6144, .bf16⟩

abbrev bufTy : (tb : Table) → Fin (tcTables nBuf tb) → BufTy
  | .hbm, ⟨i, _⟩ => hbmTy i
  | _, _ => ⟨S3x1152x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_c_3 : Ref sig .tc := ⟨.hbm, 74, rfl⟩
abbrev main_v64 : Ref sig .tc := ⟨.hbm, 75, rfl⟩
abbrev main_v65 : Ref sig .tc := ⟨.hbm, 76, rfl⟩
abbrev main_c_4 : Ref sig .tc := ⟨.hbm, 77, rfl⟩
abbrev main_v66 : Ref sig .tc := ⟨.hbm, 78, rfl⟩
abbrev main_v67 : Ref sig .tc := ⟨.hbm, 79, rfl⟩
abbrev main_c_5 : Ref sig .tc := ⟨.hbm, 80, rfl⟩
abbrev main_v68 : Ref sig .tc := ⟨.hbm, 81, rfl⟩
abbrev main_v69 : Ref sig .tc := ⟨.hbm, 82, rfl⟩
abbrev main_call0_v0 : Ref sig .tc := ⟨.hbm, 83, rfl⟩
abbrev main_call0_v1 : Ref sig .tc := ⟨.hbm, 84, rfl⟩
abbrev main_v70 : Ref sig .tc := ⟨.hbm, 85, rfl⟩
abbrev main_call1_v0 : Ref sig .tc := ⟨.hbm, 86, rfl⟩
abbrev main_call1_v1 : Ref sig .tc := ⟨.hbm, 87, rfl⟩
abbrev main_v71 : Ref sig .tc := ⟨.hbm, 88, rfl⟩
abbrev main_call2_v0 : Ref sig .tc := ⟨.hbm, 89, rfl⟩
abbrev main_call2_v1 : Ref sig .tc := ⟨.hbm, 90, rfl⟩
abbrev main_v72 : Ref sig .tc := ⟨.hbm, 91, rfl⟩
abbrev main_call3_v0 : Ref sig .tc := ⟨.hbm, 92, rfl⟩
abbrev main_call3_v1 : Ref sig .tc := ⟨.hbm, 93, rfl⟩
abbrev main_v73 : Ref sig .tc := ⟨.hbm, 94, rfl⟩
abbrev main_call4_v0 : Ref sig .tc := ⟨.hbm, 95, rfl⟩
abbrev main_call4_v1 : Ref sig .tc := ⟨.hbm, 96, rfl⟩
abbrev main_v74 : Ref sig .tc := ⟨.hbm, 97, rfl⟩
abbrev main_call5_v0 : Ref sig .tc := ⟨.hbm, 98, rfl⟩
abbrev main_call5_v1 : Ref sig .tc := ⟨.hbm, 99, rfl⟩
abbrev main_v75 : Ref sig .tc := ⟨.hbm, 100, rfl⟩
abbrev main_call6_v0 : Ref sig .tc := ⟨.hbm, 101, rfl⟩
abbrev main_call6_v1 : Ref sig .tc := ⟨.hbm, 102, rfl⟩
abbrev main_v76 : Ref sig .tc := ⟨.hbm, 103, rfl⟩
abbrev main_call7_v0 : Ref sig .tc := ⟨.hbm, 104, rfl⟩
abbrev main_call7_v1 : Ref sig .tc := ⟨.hbm, 105, rfl⟩
abbrev main_v77 : Ref sig .tc := ⟨.hbm, 106, rfl⟩
abbrev main_c_6 : Ref sig .tc := ⟨.hbm, 107, rfl⟩
abbrev main_v78 : Ref sig .tc := ⟨.hbm, 108, rfl⟩
abbrev main_v79 : Ref sig .tc := ⟨.hbm, 109, rfl⟩
abbrev main_c_7 : Ref sig .tc := ⟨.hbm, 110, rfl⟩
abbrev main_v80 : Ref sig .tc := ⟨.hbm, 111, rfl⟩
abbrev main_v81 : Ref sig .tc := ⟨.hbm, 112, rfl⟩
abbrev main_c_8 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_c_9 : Ref sig .tc := ⟨.hbm, 120, rfl⟩
abbrev main_v88 : Ref sig .tc := ⟨.hbm, 121, rfl⟩
abbrev main_v89 : Ref sig .tc := ⟨.hbm, 122, rfl⟩
abbrev main_c_10 : Ref sig .tc := ⟨.hbm, 123, rfl⟩
abbrev main_v90 : Ref sig .tc := ⟨.hbm, 124, rfl⟩
abbrev main_v91 : Ref sig .tc := ⟨.hbm, 125, rfl⟩
abbrev main_c_11 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_c_12 : Ref sig .tc := ⟨.hbm, 131, rfl⟩
abbrev main_v96 : Ref sig .tc := ⟨.hbm, 132, rfl⟩
abbrev main_v97 : Ref sig .tc := ⟨.hbm, 133, rfl⟩
abbrev main_c_13 : Ref sig .tc := ⟨.hbm, 134, rfl⟩
abbrev main_v98 : Ref sig .tc := ⟨.hbm, 135, rfl⟩
abbrev main_v99 : Ref sig .tc := ⟨.hbm, 136, rfl⟩
abbrev main_c_14 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_c_15 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_c_16 : Ref sig .tc := ⟨.hbm, 178, rfl⟩
abbrev main_v139 : Ref sig .tc := ⟨.hbm, 179, rfl⟩
abbrev main_v140 : Ref sig .tc := ⟨.hbm, 180, rfl⟩
abbrev main_c_17 : Ref sig .tc := ⟨.hbm, 181, rfl⟩
abbrev main_v141 : Ref sig .tc := ⟨.hbm, 182, rfl⟩
abbrev main_v142 : Ref sig .tc := ⟨.hbm, 183, rfl⟩
abbrev main_c_18 : Ref sig .tc := ⟨.hbm, 184, rfl⟩
abbrev main_v143 : Ref sig .tc := ⟨.hbm, 185, rfl⟩
abbrev main_v144 : Ref sig .tc := ⟨.hbm, 186, rfl⟩
abbrev main_call15_v0 : Ref sig .tc := ⟨.hbm, 187, rfl⟩
abbrev main_call15_v1 : Ref sig .tc := ⟨.hbm, 188, rfl⟩
abbrev main_v145 : Ref sig .tc := ⟨.hbm, 189, rfl⟩
abbrev main_call16_v0 : Ref sig .tc := ⟨.hbm, 190, rfl⟩
abbrev main_call16_v1 : Ref sig .tc := ⟨.hbm, 191, rfl⟩
abbrev main_v146 : Ref sig .tc := ⟨.hbm, 192, rfl⟩
abbrev main_call17_v0 : Ref sig .tc := ⟨.hbm, 193, rfl⟩
abbrev main_call17_v1 : Ref sig .tc := ⟨.hbm, 194, rfl⟩
abbrev main_v147 : Ref sig .tc := ⟨.hbm, 195, rfl⟩
abbrev main_call18_v0 : Ref sig .tc := ⟨.hbm, 196, rfl⟩
abbrev main_call18_v1 : Ref sig .tc := ⟨.hbm, 197, rfl⟩
abbrev main_v148 : Ref sig .tc := ⟨.hbm, 198, rfl⟩
abbrev main_call19_v0 : Ref sig .tc := ⟨.hbm, 199, rfl⟩
abbrev main_call19_v1 : Ref sig .tc := ⟨.hbm, 200, rfl⟩
abbrev main_v149 : Ref sig .tc := ⟨.hbm, 201, rfl⟩
abbrev main_call20_v0 : Ref sig .tc := ⟨.hbm, 202, rfl⟩
abbrev main_call20_v1 : Ref sig .tc := ⟨.hbm, 203, rfl⟩
abbrev main_v150 : Ref sig .tc := ⟨.hbm, 204, rfl⟩
abbrev main_call21_v0 : Ref sig .tc := ⟨.hbm, 205, rfl⟩
abbrev main_call21_v1 : Ref sig .tc := ⟨.hbm, 206, rfl⟩
abbrev main_v151 : Ref sig .tc := ⟨.hbm, 207, rfl⟩
abbrev main_call22_v0 : Ref sig .tc := ⟨.hbm, 208, rfl⟩
abbrev main_call22_v1 : Ref sig .tc := ⟨.hbm, 209, rfl⟩
abbrev main_v152 : Ref sig .tc := ⟨.hbm, 210, rfl⟩
abbrev main_c_19 : Ref sig .tc := ⟨.hbm, 211, rfl⟩
abbrev main_v153 : Ref sig .tc := ⟨.hbm, 212, rfl⟩
abbrev main_v154 : Ref sig .tc := ⟨.hbm, 213, rfl⟩
abbrev main_c_20 : Ref sig .tc := ⟨.hbm, 214, rfl⟩
abbrev main_v155 : Ref sig .tc := ⟨.hbm, 215, rfl⟩
abbrev main_v156 : Ref sig .tc := ⟨.hbm, 216, rfl⟩
abbrev main_c_21 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_c_22 : Ref sig .tc := ⟨.hbm, 224, rfl⟩
abbrev main_v163 : Ref sig .tc := ⟨.hbm, 225, rfl⟩
abbrev main_v164 : Ref sig .tc := ⟨.hbm, 226, rfl⟩
abbrev main_c_23 : Ref sig .tc := ⟨.hbm, 227, rfl⟩
abbrev main_v165 : Ref sig .tc := ⟨.hbm, 228, rfl⟩
abbrev main_v166 : Ref sig .tc := ⟨.hbm, 229, rfl⟩
abbrev main_c_24 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_c_25 : Ref sig .tc := ⟨.hbm, 235, rfl⟩
abbrev main_v171 : Ref sig .tc := ⟨.hbm, 236, rfl⟩
abbrev main_v172 : Ref sig .tc := ⟨.hbm, 237, rfl⟩
abbrev main_c_26 : Ref sig .tc := ⟨.hbm, 238, rfl⟩
abbrev main_v173 : Ref sig .tc := ⟨.hbm, 239, rfl⟩
abbrev main_v174 : Ref sig .tc := ⟨.hbm, 240, rfl⟩
abbrev main_c_27 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩

abbrev nD : Nat := 1
abbrev τ : Topo := Topo.v7x

variable {F : FTy → Type} [FloatOps F]
-- ==== Proof.RotRoll.lean ====
/- The rotation kernel's body written as a loop over the six groups of 1024 columns, and the proof
   that the printed body is that loop. -/
module

public import proofs.«01_k».proof.KernelIdeal.P01
public import Idealize.ShloMosaic.Lib.Pipeline.Regions

@[expose] public section

set_option maxRecDepth 16384

noncomputable section

namespace Cert.KernelIdeal.Roll

open Idealize.ShloMosaic Idealize.SL.Sem
open Cert.KernelIdeal

variable {F : FTy → Type} [FloatOps F]
variable [Facts]
open Facts
open Shapes1.Facts₀ Shapes4.Facts₀

/-- `n` steps in order and then `fin`: with `k` steps to go, step `n - k` comes next. -/
def loopC {α : Type*} (n : ℕ) (body : (i : ℕ) → i < n → α → α) (fin : α) (k : ℕ) : k ≤ n → α :=
  Nat.rec (motive := fun k => k ≤ n → α) (fun _ => fin)
    (fun k ih h => body (n - (k + 1)) (by omega) (ih (Nat.le_of_succ_le h))) k

theorem inbX (c : ℕ) (hc : c + 256 ≤ 6144) : ∀ a, (![0, c] : Fin 2 → Nat) a + S432x256.size a ≤ S432x6144.size a := by
  intro a; fin_cases a
  · exact le_of_eq rfl
  · exact hc
theorem inbS (c : ℕ) (hc : c + 256 ≤ 6144) : ∀ a, (![0, c] : Fin 2 → Nat) a + S1x256.size a ≤ S1x6144.size a := by
  intro a; fin_cases a
  · exact le_of_eq rfl
  · exact hc
theorem packX (c : ℕ) (hc : c + 256 ≤ 6144) :
    (Rect.unit (s := S432x6144) ![0, c] S432x256.size (inbX c hc)).PackedRows (EltTy.packing .bf16) :=
  .inr ⟨by decide, rfl, .inl ⟨⟨0, rfl⟩, ⟨216, rfl⟩⟩⟩

/-- The 256 × 256 sign matrix the kernel builds from the parity of the bits of `i &&& k`. -/
def hmat : FVec F S256x256 .bf16 :=
  let v0 : IVec S256x256 32 := iota .tc S256x256 32 [0] iota_S256x256_d0_w32
  let v1 : IVec S256x256 32 := iota .tc S256x256 32 [1] iota_S256x256_d1_w32
  let v2 : IVec S256x256 32 := andi v0 v1
  let v5 : IVec S256x256 32 := xori v2 (shrsi v2 (broadcast S256x256 8#32))
  let v8 : IVec S256x256 32 := xori v5 (shrsi v5 (broadcast S256x256 4#32))
  let v11 : IVec S256x256 32 := xori v8 (shrsi v8 (broadcast S256x256 2#32))
  let v14 : IVec S256x256 32 := xori v11 (shrsi v11 (broadcast S256x256 1#32))
  let v16 : IVec S256x256 32 := andi v14 (broadcast S256x256 1#32)
  let v20 : IVec S256x256 32 := subi (broadcast S256x256 1#32) (muli (broadcast S256x256 2#32) v16)
  truncf .bf16 (sitofp .f32 v20) bitsLt_bf16_f32

/-- One 256-wide piece of a row block: its sign-flipped columns times the sign matrix. -/
def rotDot (x : FVec F S432x256 .bf16) (s : IVec S1x256 8) : FVec F S432x256 .f32 :=
  matmul dot_S432x256_S256x256_S432x256_1_0_0_1_n_n none
    (mulf (shapeCast S432x256 x shapeCasts_S432x256_S432x256)
      (broadcastTo S432x256 (sitofp .bf16 (shapeCast S1x256 s shapeCasts_S1x256_S1x256)) broadcasts_S1x256_S432x256))
    hmat (constant S432x256 .f32 0x00000000#32)

/-- Scaled by 1/32 and rounded. -/
def rotOut (v : FVec F S432x256 .f32) : FVec F S432x256 .bf16 :=
  truncf .bf16 (mulf v (broadcast S432x256 (Scalar.ofBits .f32 0x3D000000#32))) bitsLt_bf16_f32

/-- A kernel body's program. -/
abbrev PGm (F : FTy → Type) := Prog (TpuEff nD τ sig (Elt F) Λ₀ .tc) PUnit

section Prog
variable (arg1 : Memref sig .tc .vmem S432x6144 .bf16) (harg1 : arg1.IsWhole) (arg2 : Memref sig .tc .vmem S1x6144 .i8) (harg2 : arg2.IsWhole) (arg3 : Memref sig .tc .vmem S432x6144 .bf16) (harg3 : arg3.IsWhole)

/-- Load the piece of columns from `c`, and go on with its product. -/
def rotLoad (c : ℕ) (hc : c + 256 ≤ 6144) (k : FVec F S432x256 .f32 → PGm F) : PGm F :=
  Prog.op (.load arg1 (Rect.unit (s := S432x6144) ![0, c] S432x256.size (inbX c hc)).toLoadRect (View.loadsAt_vmem h_S432x256))
    fun (x : Vec F S432x256 .bf16) =>
  Prog.op (.load arg2 (Rect.unit (s := S1x6144) ![0, c] S1x256.size (inbS c hc)).toLoadRect (View.loadsAt_vmem h_S1x256))
    fun (s : Vec F S1x256 .i8) => k (rotDot x s)

/-- Store a piece at the columns from `c` (the load before it is not used). -/
def rotStore (c : ℕ) (hc : c + 256 ≤ 6144) (v : FVec F S432x256 .bf16) (k : PGm F) : PGm F :=
  Prog.op (.load arg3 (Rect.unit (s := S432x6144) ![0, c] S432x256.size (inbX c hc)).toLoadRect (View.loadsAt_vmem h_S432x256))
    fun (_ : Vec F S432x256 .bf16) =>
  Prog.op (.store arg3 (Rect.unit (s := S432x6144) ![0, c] S432x256.size (inbX c hc)) v Finset.univ
      (View.stores_vmem h_S432x256 (harg3.storeExact_slice rfl _ (packX c hc)) (fun _ => rfl)) (.inl rfl)) fun _ => k

/-- One group of 1024 columns. -/
def rotGroup (j : ℕ) (hj : j < 6) (k : PGm F) : PGm F :=
  rotLoad arg1 arg2 (j * 1024) (by omega) fun p0 =>
  rotLoad arg1 arg2 (j * 1024 + 256) (by omega) fun p1 =>
  rotLoad arg1 arg2 (j * 1024 + 512) (by omega) fun p2 =>
  rotLoad arg1 arg2 (j * 1024 + 768) (by omega) fun p3 =>
  rotStore arg3 harg3 (j * 1024) (by omega) (rotOut (addf (addf p0 p1) (addf p2 p3))) <|
  rotStore arg3 harg3 (j * 1024 + 256) (by omega) (rotOut (addf (subf p0 p1) (subf p2 p3))) <|
  rotStore arg3 harg3 (j * 1024 + 512) (by omega) (rotOut (subf (addf p0 p1) (addf p2 p3))) <|
  rotStore arg3 harg3 (j * 1024 + 768) (by omega) (rotOut (subf (subf p0 p1) (subf p2 p3))) k

/-- The whole body as six groups. -/
def rotRoll : PGm F :=
  loopC 6 (fun j hj k => rotGroup arg1 arg2 arg3 harg3 j hj k) (Prog.ret ⟨⟩) 6 le_rfl

theorem rot_eq_roll (i : grid0.Coords) :
    cc0__rotate_kernel (F := F) i arg1 harg1 arg2 harg2 arg3 harg3 = rotRoll arg1 arg2 arg3 harg3 := by
  chain_rfl

end Prog

end Cert.KernelIdeal.Roll

end
-- ==== Proof.MatRoll.lean ====
/- The matmul kernel's body written as a loop over the 24 × 4 blocks of codes and the 16 strips of
   each. -/
module

public import proofs.«01_k».proof.Proof.RotRoll

@[expose] public section

set_option maxRecDepth 16384

noncomputable section

namespace Cert.KernelIdeal.Roll

open Idealize.ShloMosaic Idealize.SL.Sem
open Cert.KernelIdeal

variable {F : FTy → Type} [FloatOps F]
variable [Facts]
open Facts
open Shapes1.Facts₀ Shapes4.Facts₀

theorem inbC (a b : ℕ) (ha : a + 128 ≤ 512) (hb : b + 128 ≤ 3072) :
    ∀ x, (![a, b] : Fin 2 → Nat) x + S128x128.size x ≤ S512x3072.size x := by
  intro x; fin_cases x
  · exact ha
  · exact hb
theorem inbW (a b : ℕ) (ha : a + 1 ≤ 6) (hb : b + 128 ≤ 512) :
    ∀ x, (![a, b] : Fin 2 → Nat) x + S1x128.size x ≤ S6x512.size x := by
  intro x; fin_cases x
  · exact ha
  · exact hb
theorem inbT (a b : ℕ) (ha : a + 16 ≤ 6144) (hb : b + 128 ≤ 512) :
    ∀ x, (![a, b] : Fin 2 → Nat) x + S16x128.size x ≤ S6144x512.size x := by
  intro x; fin_cases x
  · exact ha
  · exact hb
theorem slicesV (a : ℕ) (ha : a + 8 ≤ 128) : S128x128.Slices ![a, 0] S8x128 := by
  refine ⟨rfl, fun x => ?_⟩; fin_cases x
  · exact ha
  · exact le_of_eq rfl
theorem packT (a b : ℕ) (ha : a + 16 ≤ 6144) (hb : b + 128 ≤ 512) (h2 : 2 ∣ a) :
    (Rect.unit (s := S6144x512) ![a, b] S16x128.size (inbT a b ha hb)).PackedRows (EltTy.packing .bf16) := by
  obtain ⟨c, rfl⟩ := h2
  exact .inr ⟨by decide, rfl, .inl ⟨⟨c, rfl⟩, ⟨8, rfl⟩⟩⟩

/-- The bytes' table words: the low half of the table where the byte is below 128, the high half elsewhere. -/
def words (lo hi : IVec S8x128 32) (b : IVec S8x128 32) : IVec S8x128 32 :=
  let n : IVec S8x128 32 := andi b (broadcast S8x128 127#32)
  let i : IVec S8x128 32 := shapeCast S8x128 (shapeCast S8x128x1
    (select (cmpi .slt n (broadcast S8x128 0#32)) (addi n (broadcast S8x128 128#32)) n)
    shapeCasts_S8x128_S8x128x1) shapeCasts_S8x128x1_S8x128
  select (cmpi .slt b (broadcast S8x128 128#32)) (dynamicGather 1 lo i) (dynamicGather 1 hi i)

/-- A strip of sixteen decoded and scaled rows: the words of eight rows of bytes as pairs of halves. -/
def strip (lo hi : IVec S8x128 32) (t : IVec S128x128 32) (sc : FVec F S1x128 .bf16) (v : ℕ) (hv : v < 16) :
    FVec F S16x128 .bf16 :=
  shapeCast S16x128
    (mulf (bitcastToFloat .bf16 (bitcast S16x128 16
        (words lo hi (extractStridedSlice S8x128 ![v * 8, 0] t (slicesV (v * 8) (by omega)))) bitcasts_S8x128_w32_S16x128_w16))
      (broadcastTo S16x128 sc broadcasts_S1x128_S16x128))
    shapeCasts_S16x128_S16x128

/-- A block of codes, widened and turned so that its rows run along the contraction. -/
def turned (b : IVec S128x128 8) : IVec S128x128 32 :=
  transpose S128x128 [1, 0] (extui 32 b natLt_8_32) transposes_S128x128_p1_0_S128x128

/-- The product of the block of rows with the decoded weights, rounded. -/
def mmOut (x : FVec F S864x6144 .bf16) (w : FVec F S6144x512 .bf16) : FVec F S864x512 .bf16 :=
  truncf .bf16 (matmul dot_S864x6144_S6144x512_S864x512_1_0_0_1_n_n none
    (shapeCast S864x6144 x shapeCasts_S864x6144_S864x6144) w (constant S864x512 .f32 0x00000000#32)) bitsLt_bf16_f32

section Prog
variable (arg2 : Memref sig .tc .vmem S864x6144 .bf16) (harg2 : arg2.IsWhole) (arg3 : Memref sig .tc .vmem S16x128 .i32) (harg3 : arg3.IsWhole) (arg4 : Memref sig .tc .vmem S512x3072 .i8) (harg4 : arg4.IsWhole) (arg5 : Memref sig .tc .vmem S6x512 .bf16) (harg5 : arg5.IsWhole) (arg6 : Memref sig .tc .vmem S864x512 .bf16) (harg6 : arg6.IsWhole) (arg7 : Memref sig .tc .vmem S6144x512 .bf16) (harg7 : arg7.IsWhole)

/-- Store strip `v` of block `(j, n)` (the load before it is not used). -/
def mmStrip (lo hi : IVec S8x128 32) (t : IVec S128x128 32) (sc : FVec F S1x128 .bf16) (j n : ℕ) (hj : j < 24) (hn : n < 4)
    (v : ℕ) (hv : v < 16) (k : PGm F) : PGm F :=
  Prog.op (.load arg7 (Rect.unit (s := S6144x512) ![j * 256 + v * 16, n * 128] S16x128.size (inbT _ _ (by omega) (by omega))).toLoadRect (View.loadsAt_vmem h_S16x128))
    fun (_ : Vec F S16x128 .bf16) =>
  Prog.op (.store arg7 (Rect.unit (s := S6144x512) ![j * 256 + v * 16, n * 128] S16x128.size (inbT _ _ (by omega) (by omega)))
      (strip lo hi t sc v hv) Finset.univ
      (View.stores_vmem h_S16x128 (harg7.storeExact_slice rfl _ (packT _ _ (by omega) (by omega) (by omega))) (fun _ => rfl)) (.inl rfl)) fun _ => k

/-- Decode block `(j, n)`. -/
def mmBlock (lo hi : IVec S8x128 32) (j n : ℕ) (hj : j < 24) (hn : n < 4) (k : PGm F) : PGm F :=
  Prog.op (.load arg4 (Rect.unit (s := S512x3072) ![n * 128, j * 128] S128x128.size (inbC _ _ (by omega) (by omega))).toLoadRect (View.loadsAt_vmem h_S128x128))
    fun (b : Vec F S128x128 .i8) =>
  Prog.op (.load arg5 (Rect.unit (s := S6x512) ![j / 4, n * 128] S1x128.size (inbW _ _ (by omega) (by omega))).toLoadRect (View.loadsAt_vmem h_S1x128))
    fun (s : Vec F S1x128 .bf16) =>
  loopC 16 (fun v hv k => mmStrip arg7 harg7 lo hi (turned b) (shapeCast S1x128 s shapeCasts_S1x128_S1x128) j n hj hn v hv k) k 16 le_rfl

/-- The product, after every block is decoded. -/
def mmTail : PGm F :=
  Prog.op (.load arg2 (Rect.unit (s := S864x6144) ![0, 0] S864x6144.size inb_S864x6144_S864x6144_0_0).toLoadRect (View.loadsAt_vmem h_S864x6144))
    fun (x : Vec F S864x6144 .bf16) =>
  Prog.op (.load arg7 (Rect.unit (s := S6144x512) ![0, 0] S6144x512.size inb_S6144x512_S6144x512_0_0).toLoadRect (View.loadsAt_vmem h_S6144x512))
    fun (w : Vec F S6144x512 .bf16) =>
  Prog.op (.load arg6 (Rect.unit (s := S864x512) ![0, 0] S864x512.size inb_S864x512_S864x512_0_0).toLoadRect (View.loadsAt_vmem h_S864x512))
    fun (_ : Vec F S864x512 .bf16) =>
  Prog.op (.store arg6 (Rect.unit (s := S864x512) ![0, 0] S864x512.size inb_S864x512_S864x512_0_0) (mmOut x w) Finset.univ
      (View.stores_vmem h_S864x512 (harg6.storeExact_slice rfl _ packedbf16_S864x512_S864x512_0_0) (fun _ => rfl)) (.inl rfl)) fun _ =>
  Prog.ret ⟨⟩

/-- The whole body: the table, the 96 blocks, the product. -/
def mmRoll : PGm F :=
  Prog.op (.load arg3 (Rect.unit (s := S16x128) ![0, 0] S8x128.size inb_S16x128_S8x128_0_0).toLoadRect (View.loadsAt_vmem h_S8x128))
    fun (lo : Vec F S8x128 .i32) =>
  Prog.op (.load arg3 (Rect.unit (s := S16x128) ![8, 0] S8x128.size inb_S16x128_S8x128_8_0).toLoadRect (View.loadsAt_vmem h_S8x128))
    fun (hi : Vec F S8x128 .i32) =>
  loopC 96 (fun b hb k => mmBlock arg4 arg5 arg7 harg7 (shapeCast S8x128 lo shapeCasts_S8x128_S8x128) (shapeCast S8x128 hi shapeCasts_S8x128_S8x128)
    (b / 4) (b % 4) (by omega) (by omega) k) (mmTail arg2 arg6 harg6 arg7) 96 le_rfl

end Prog

end Cert.KernelIdeal.Roll

end
-- ==== Proof.Body.lean ====
/- What the two kernels' bodies leave: the rotated row block, and the block of the product together
   with the decoded weights, each as one function of the element's coordinates. -/
module

public import proofs.«01_k».proof.Proof.MatRoll
public import Idealize.ShloMosaic.Lib.Pipeline.FrameBody
public import Idealize.ShloMosaic.Lib.Tactic
public import Idealize.ShloMosaic.Lib.ValueIdxCore
public import Idealize.ShloMosaic.Lib.Pipeline.Value

@[expose] public section

set_option maxRecDepth 16384

noncomputable section

namespace Cert.KernelIdeal.Roll

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal

variable {F : FTy → Type} [FloatOps F]
variable [Facts]
open Facts
open Shapes1.Facts₀ Shapes4.Facts₀

local notation "𝕄" => MT nD τ sig Unit (Elt F) ℕ (UR sig nD τ) ℕ

/-! ## One load, one store, one loop -/

section Rules
variable (c : Dev nD) (E : Set ℕ) {s : Shape} {e : EltTy}
  {defs : Defs nD τ sig (Elt F) Λ₀}

/-- A load at the head of a program reads what the memref holds under the rectangle. -/
theorem ld_rule (Q : PUnit → sProp 𝕄) (mr : Memref sig .tc .vmem s e) (r : Rect s) {hl : mr.view.LoadsAt r.toLoadRect}
    {k : (r.shape.Idx → Elt F e) → PGm F} (x : s.Idx → Elt F e) :
    owns (c : Thread nD τ) mr fullShare x
      ⊢ iprop((owns (c : Thread nD τ) mr fullShare x
          -∗ wp frame (wpE defs Variants.none c none) E (k (View.ld x r)) Q)
        -∗ wp frame (wpE defs Variants.none c none) E (Prog.op (.load mr r.toLoadRect hl) k) Q) := by
  unfold owns
  iintro ⟨%f, %hf, H⟩ Hk
  subst hf
  iapply (wp_load (defs := defs) Variants.none (c : Thread nD τ) none E (m := mr) (r := r.toLoadRect) (hl := hl) (k := k)
    (S := mr.view.set) (q := fullShare) (f := f) (View.setOn_subset_set _ _)) $$ [H]
  · iexact H
  iintro H
  iapply Hk
  iexists f; isplitr; · ipureintro; rfl
  iexact H

/-- A store at the head of a program: what the memref holds agrees with the payload under the rectangle
    and is as before elsewhere. -/
theorem st_rule (Q : PUnit → sProp 𝕄) (mr : Memref sig .tc .vmem s e) (r : Rect s) {w : r.shape.Idx → Elt F e}
    {hx : (mr.access r).Stores Finset.univ} {hm : Finset.univ = Finset.univ ∨ ∀ a, r.stride a = 1}
    {k : PUnit → PGm F} (x : s.Idx → Elt F e) (P : sProp 𝕄)
    (h : ∀ y : s.Idx → Elt F e, (∀ i, y (r.emb i) = w i) → (∀ j, j ∉ r.set → y j = x j) →
      (iprop(P ∗ owns (c : Thread nD τ) mr fullShare y) ⊢ wp frame (wpE defs Variants.none c none) E (k ⟨⟩) Q)) :
    iprop(P ∗ owns (c : Thread nD τ) mr fullShare x)
      ⊢ wp frame (wpE defs Variants.none c none) E (Prog.op (.store mr r w Finset.univ hx hm) k) Q := by
  unfold owns at *
  iintro ⟨HP, ⟨%f, %hf, H⟩⟩
  subst hf
  have hh := h (mr.view.read (Elt F) (mr.view.writes (Elt F) f [⟨r, w⟩]))
    (fun i => View.read_writes_cons_emb mr.view f r w [] i) (fun j hj => View.read_writes_cons_miss mr.view f ⟨r, w⟩ [] j hj)
  have hs : (mr.access r).set ⊆ mr.view.set := View.set_slice_subset _ _
  iapply (wp_store_writes₀ (defs := defs) Variants.none (c : Thread nD τ) none E (m := mr) (r := r) (w := w) (hx := hx) (hm := hm)
    (k := k) (S := mr.view.set) (f := f) hs) $$ [H]
  · iexact H
  iintro H
  iapply hh
  isplitl [HP]; · iexact HP
  iexists _; isplitr; · ipureintro; rfl
  iexact H

/-- A loop, by an invariant. -/
theorem loop_rule (Q : PUnit → sProp 𝕄) {n : ℕ} {body : (i : ℕ) → i < n → PGm F → PGm F} {fin : PGm F} (I : ℕ → sProp 𝕄)
    (hstep : ∀ i (hi : i < n) (k : PGm F), (I (i + 1) ⊢ wp frame (wpE defs Variants.none c none) E k Q) →
      (I i ⊢ wp frame (wpE defs Variants.none c none) E (body i hi k) Q))
    (hfin : I n ⊢ wp frame (wpE defs Variants.none c none) E fin Q) (k : ℕ) (hk : k ≤ n) :
    I (n - k) ⊢ wp frame (wpE defs Variants.none c none) E (loopC n body fin k hk) Q := by
  induction k with
  | zero => exact hfin
  | succ k ih =>
    refine hstep (n - (k + 1)) (by omega) _ ?_
    have h := ih (Nat.le_of_succ_le hk)
    rwa [show n - k = n - (k + 1) + 1 by omega] at h

end Rules

/-- After a store of an `h × w` piece at `(a, b)`: an element is under the piece, with the piece's value, or
    outside it, with the value from before. -/
theorem piece_cases {M N a b h w : ℕ} {e : EltTy} {inb : ∀ x, (![a, b] : Fin 2 → Nat) x + (![h, w] : Fin 2 → Nat) x ≤ (![M, N] : Fin 2 → Nat) x}
    {p : (⟨2, ![h, w]⟩ : Shape).Idx → Elt F e} {x y : (⟨2, ![M, N]⟩ : Shape).Idx → Elt F e}
    (h1 : ∀ i, y ((Rect.unit (s := ⟨2, ![M, N]⟩) ![a, b] ![h, w] inb).emb i) = p i)
    (h2 : ∀ j, j ∉ (Rect.unit (s := ⟨2, ![M, N]⟩) ![a, b] ![h, w] inb).set → y j = x j) (z : (⟨2, ![M, N]⟩ : Shape).Idx) :
    (∃ i : (⟨2, ![h, w]⟩ : Shape).Idx, (z 0 : ℕ) = a + (i 0 : ℕ) ∧ (z 1 : ℕ) = b + (i 1 : ℕ) ∧ y z = p i)
      ∨ (¬ ((a ≤ (z 0 : ℕ) ∧ (z 0 : ℕ) < a + h) ∧ (b ≤ (z 1 : ℕ) ∧ (z 1 : ℕ) < b + w)) ∧ y z = x z) := by
  by_cases hz : z ∈ (Rect.unit (s := ⟨2, ![M, N]⟩) ![a, b] ![h, w] inb).set
  · left
    obtain ⟨i, hi⟩ := (Rect.unit (s := ⟨2, ![M, N]⟩) ![a, b] ![h, w] inb).exists_idx_of_mem hz
    have hi' : (Rect.unit (s := ⟨2, ![M, N]⟩) ![a, b] ![h, w] inb).emb i = z := hi
    refine ⟨i, ?_, ?_, by rw [← hi']; exact h1 i⟩
    · rw [← hi', Rect.emb_apply]; show a + 1 * _ = _; rw [Nat.one_mul]
    · rw [← hi', Rect.emb_apply]; show b + 1 * _ = _; rw [Nat.one_mul]
  · refine .inr ⟨fun hc => hz ?_, h2 z hz⟩
    rw [Rect.mem_set_unit]
    intro x; fin_cases x
    · exact hc.1
    · exact hc.2

theorem inbL (a : ℕ) (ha : a + 8 ≤ 16) : ∀ x, (![a, 0] : Fin 2 → Nat) x + S8x128.size x ≤ S16x128.size x := by
  intro x; fin_cases x
  · exact ha
  · exact le_of_eq rfl

/-! ## The rotation -/

/-- The 256-wide piece of columns from `c`, flipped and multiplied. -/
def rotPart (x : Vec F S432x6144 .bf16) (s : Vec F S1x6144 .i8) (c : ℕ) (hc : c + 256 ≤ 6144) : FVec F S432x256 .f32 :=
  rotDot (View.ld (Val := Elt F) (e' := .bf16) x (Rect.unit (s := S432x6144) ![0, c] S432x256.size (inbX c hc)))
    (View.ld (Val := Elt F) (e' := .i8) s (Rect.unit (s := S1x6144) ![0, c] S1x256.size (inbS c hc)))

/-- What the body stores in quarter `q` of the group `j` of 1024 columns. -/
def rotPay (x : Vec F S432x6144 .bf16) (s : Vec F S1x6144 .i8) (j : ℕ) (hj : j < 6) (q : ℕ) : FVec F S432x256 .bf16 :=
  let p0 := rotPart x s (j * 1024) (by omega)
  let p1 := rotPart x s (j * 1024 + 256) (by omega)
  let p2 := rotPart x s (j * 1024 + 512) (by omega)
  let p3 := rotPart x s (j * 1024 + 768) (by omega)
  match q with
  | 0 => rotOut (addf (addf p0 p1) (addf p2 p3))
  | 1 => rotOut (addf (subf p0 p1) (subf p2 p3))
  | 2 => rotOut (subf (addf p0 p1) (addf p2 p3))
  | _ => rotOut (subf (subf p0 p1) (subf p2 p3))

theorem col_lt {n j : ℕ} (h : j < n) (hn : n = 6144) : j / 1024 < 6 := by omega

/-- The block the rotation's body leaves. -/
def rotBody (x : Vec F S432x6144 .bf16) (s : Vec F S1x6144 .i8) : Vec F S432x6144 .bf16 := fun z =>
  rotPay x s ((z 1 : ℕ) / 1024) (col_lt (z 1).isLt rfl) ((z 1 : ℕ) % 1024 / 256)
    (ValueIdx.ix2 (n0 := 432) (n1 := 256) (z 0) ⟨(z 1 : ℕ) % 256, Nat.mod_lt _ (by decide)⟩)

theorem rotBody_eq (x : Vec F S432x6144 .bf16) (s : Vec F S1x6144 .i8) (j : ℕ) (hj : j < 6) (q : ℕ) (hq : q < 4)
    (z : S432x6144.Idx) (i : S432x256.Idx) (h0 : (z 0 : ℕ) = 0 + (i 0 : ℕ)) (h1 : (z 1 : ℕ) = j * 1024 + q * 256 + (i 1 : ℕ)) :
    rotPay x s j hj q i = rotBody x s z := by
  have hi : (i 1 : ℕ) < 256 := (i 1).isLt
  have key : ∀ (j' : ℕ) (hj' : j' < 6) (q' : ℕ) (i' : S432x256.Idx), j' = j → q' = q → i' = i →
      rotPay x s j hj q i = rotPay x s j' hj' q' i' := by
    intro j' hj' q' i' e1 e2 e3; subst e1 e2 e3; rfl
  refine key _ _ _ _ (by omega) (by omega) ?_
  refine (funext fun a => ?_)
  fin_cases a
  · exact Fin.ext (by show (z 0 : ℕ) = (i 0 : ℕ); omega)
  · exact Fin.ext (by show (z 1 : ℕ) % 256 = (i 1 : ℕ); omega)

section RotRule
variable (c : Dev nD) (E : Set ℕ) (defs : Defs nD τ sig (Elt F) Λ₀)
variable (arg1 : Memref sig .tc .vmem S432x6144 .bf16) (harg1 : arg1.IsWhole) (arg2 : Memref sig .tc .vmem S1x6144 .i8) (harg2 : arg2.IsWhole) (arg3 : Memref sig .tc .vmem S432x6144 .bf16) (harg3 : arg3.IsWhole)
variable (x : Vec F S432x6144 .bf16) (s : Vec F S1x6144 .i8)

/-- The body's state with the columns below `n` done. -/
def rotInv (P : sProp 𝕄) (n : ℕ) : sProp 𝕄 :=
  iprop((P ∗ owns (c : Thread nD τ) arg1 fullShare x ∗ owns (c : Thread nD τ) arg2 fullShare s)
    ∗ ∃ d : Vec F S432x6144 .bf16, ⌜∀ z : S432x6144.Idx, (z 1 : ℕ) < n → d z = rotBody x s z⌝ ∗ owns (c : Thread nD τ) arg3 fullShare d)

theorem rotLoad_rule (Q : PUnit → sProp 𝕄) (P : sProp 𝕄) (n b : ℕ) (hb : b + 256 ≤ 6144) (k : FVec F S432x256 .f32 → PGm F)
    (h : rotInv c arg1 arg2 arg3 x s P n ⊢ wp frame (wpE defs Variants.none c none) E (k (rotPart x s b hb)) Q) :
    rotInv c arg1 arg2 arg3 x s P n ⊢ wp frame (wpE defs Variants.none c none) E (rotLoad arg1 arg2 b hb k) Q := by
  unfold rotLoad
  unfold rotInv at *
  iintro ⟨⟨HP, H1, H2⟩, H3⟩
  iapply (ld_rule c E (defs := defs) Q arg1 (Rect.unit (s := S432x6144) ![0, b] S432x256.size (inbX b hb)) x) $$ [H1]
  · iexact H1
  iintro H1
  iapply (ld_rule c E (defs := defs) Q arg2 (Rect.unit (s := S1x6144) ![0, b] S1x256.size (inbS b hb)) s) $$ [H2]
  · iexact H2
  iintro H2
  iapply h
  isplitl [HP H1 H2]
  · isplitl [HP]; · iexact HP
    isplitl [H1]; · iexact H1
    iexact H2
  iexact H3

theorem rotStore_rule (Q : PUnit → sProp 𝕄) (P : sProp 𝕄) (n j q : ℕ) (hj : j < 6) (hq : q < 4) (hn : n = j * 1024 + q * 256) (b : ℕ) (hbn : b = n) (hb : b + 256 ≤ 6144)
    (v : FVec F S432x256 .bf16) (hv : v = rotPay x s j hj q) (k : PGm F)
    (h : rotInv c arg1 arg2 arg3 x s P (n + 256) ⊢ wp frame (wpE defs Variants.none c none) E k Q) :
    rotInv c arg1 arg2 arg3 x s P n ⊢ wp frame (wpE defs Variants.none c none) E (rotStore arg3 harg3 b hb v k) Q := by
  subst hbn
  unfold rotStore
  unfold rotInv at *
  iintro ⟨H, ⟨%d, %hd, H3⟩⟩
  iapply (ld_rule c E (defs := defs) Q arg3 (Rect.unit (s := S432x6144) ![0, b] S432x256.size (inbX b hb)) d) $$ [H3]
  · iexact H3
  iintro H3
  iapply (st_rule c E (defs := defs) Q arg3 (Rect.unit (s := S432x6144) ![0, b] S432x256.size (inbX b hb)) d
    (iprop(P ∗ owns (c : Thread nD τ) arg1 fullShare x ∗ owns (c : Thread nD τ) arg2 fullShare s)) ?_)
  · intro y h1 h2
    refine Entails.trans (sep_mono_right ?_) h
    iintro H
    iexists y
    isplitr
    · ipureintro
      intro z hz
      rcases piece_cases h1 h2 z with ⟨i, e0, e1, e⟩ | ⟨hne, e⟩
      · rw [e, hv]; exact rotBody_eq x s j hj q hq z i e0 (by omega)
      · have h0 : (z 0 : ℕ) < 432 := (z 0).isLt
        rw [e]; exact hd z (by omega)
    iexact H
  isplitl [H]; · iexact H
  iexact H3

theorem rotGroup_rule (Q : PUnit → sProp 𝕄) (P : sProp 𝕄) (j : ℕ) (hj : j < 6) (k : PGm F)
    (h : rotInv c arg1 arg2 arg3 x s P ((j + 1) * 1024) ⊢ wp frame (wpE defs Variants.none c none) E k Q) :
    rotInv c arg1 arg2 arg3 x s P (j * 1024) ⊢ wp frame (wpE defs Variants.none c none) E (rotGroup arg1 arg2 arg3 harg3 j hj k) Q := by
  unfold rotGroup
  apply rotLoad_rule
  apply rotLoad_rule
  apply rotLoad_rule
  apply rotLoad_rule
  refine rotStore_rule c E defs arg1 arg2 arg3 harg3 x s Q P (j * 1024) j 0 hj (by omega) (by omega) _ (by omega) _ _ rfl _ ?_
  refine rotStore_rule c E defs arg1 arg2 arg3 harg3 x s Q P (j * 1024 + 256) j 1 hj (by omega) (by omega) _ (by omega) _ _ rfl _ ?_
  refine rotStore_rule c E defs arg1 arg2 arg3 harg3 x s Q P (j * 1024 + 256 + 256) j 2 hj (by omega) (by omega) _ (by omega) _ _ rfl _ ?_
  refine rotStore_rule c E defs arg1 arg2 arg3 harg3 x s Q P (j * 1024 + 256 + 256 + 256) j 3 hj (by omega) (by omega) _ (by omega) _ _ rfl _ ?_
  rwa [show j * 1024 + 256 + 256 + 256 + 256 = (j + 1) * 1024 by omega]

/-- The rotation's body, on whole memrefs: the output's memref ends at `rotBody` of the inputs. -/
theorem rot_triple (K : PUnit → sProp 𝕄) (i : grid0.Coords) :
    iprop(owns (c : Thread nD τ) arg1 fullShare x ∗ owns (c : Thread nD τ) arg2 fullShare s ∗ (∃ d, owns (c : Thread nD τ) arg3 fullShare d)
        ∗ (iprop(owns (c : Thread nD τ) arg1 fullShare x ∗ owns (c : Thread nD τ) arg2 fullShare s ∗ owns (c : Thread nD τ) arg3 fullShare (rotBody x s)) -∗ K ⟨⟩))
      ⊢ wp frame (wpE defs Variants.none c none) E (rotRoll arg1 arg2 arg3 harg3) K := by
  have h := loop_rule c E (defs := defs) K (n := 6) (body := fun j hj k => rotGroup arg1 arg2 arg3 harg3 j hj k) (fin := Prog.ret ⟨⟩)
    (fun j => rotInv c arg1 arg2 arg3 x s
      (iprop(iprop(owns (c : Thread nD τ) arg1 fullShare x ∗ owns (c : Thread nD τ) arg2 fullShare s ∗ owns (c : Thread nD τ) arg3 fullShare (rotBody x s)) -∗ K ⟨⟩)) (j * 1024))
    (fun j hj k hk => rotGroup_rule c E defs arg1 arg2 arg3 harg3 x s K _ j hj k hk)
    (by
      unfold rotInv
      iintro ⟨⟨HK, H1, H2⟩, ⟨%d, %hd, H3⟩⟩
      have e : d = rotBody x s := funext fun z => hd z (by have : (z 1 : ℕ) < 6144 := (z 1).isLt; omega)
      subst e
      sl_step
      iapply HK
      isplitl [H1]; · iexact H1
      isplitl [H2]; · iexact H2
      iexact H3) 6 le_rfl
  refine BIBase.Entails.trans ?_ h
  unfold rotInv
  iintro ⟨H1, H2, ⟨%d, H3⟩, HK⟩
  isplitl [HK H1 H2]
  · isplitl [HK]; · iexact HK
    isplitl [H1]; · iexact H1
    iexact H2
  iexists d
  isplitr
  · ipureintro; intro z hz; omega
  iexact H3

end RotRule

/-! ## The weights and the product -/

/-- The half table from row `r`. -/
def lutHalf (t : Vec F S16x128 .i32) (r : ℕ) (hr : r + 8 ≤ 16) : IVec S8x128 32 :=
  shapeCast S8x128 (View.ld (Val := Elt F) (e' := .i32) t (Rect.unit (s := S16x128) ![r, 0] S8x128.size (inbL r hr))) shapeCasts_S8x128_S8x128

/-- Block `(j, n)` of the codes, turned. -/
def codeBlk (q : Vec F S512x3072 .i8) (j n : ℕ) (hj : j < 24) (hn : n < 4) : IVec S128x128 32 :=
  turned (View.ld (Val := Elt F) (e' := .i8) q (Rect.unit (s := S512x3072) ![n * 128, j * 128] S128x128.size (inbC _ _ (by omega) (by omega))))

/-- Block `(j, n)`'s row of scales. -/
def scaleRow (a : Vec F S6x512 .bf16) (j n : ℕ) (hj : j < 24) (hn : n < 4) : FVec F S1x128 .bf16 :=
  shapeCast S1x128 (View.ld (Val := Elt F) (e' := .bf16) a (Rect.unit (s := S6x512) ![j / 4, n * 128] S1x128.size (inbW _ _ (by omega) (by omega)))) shapeCasts_S1x128_S1x128

/-- What the body stores in strip `v` of block `(j, n)`. -/
def wPay (t : Vec F S16x128 .i32) (q : Vec F S512x3072 .i8) (a : Vec F S6x512 .bf16) (j n : ℕ) (hj : j < 24) (hn : n < 4) (v : ℕ) (hv : v < 16) :
    FVec F S16x128 .bf16 :=
  strip (lutHalf t 0 (by omega)) (lutHalf t 8 (by omega)) (codeBlk q j n hj hn) (scaleRow a j n hj hn) v hv

theorem row_lt {n j : ℕ} (h : j < n) (hn : n = 6144) : j / 256 < 24 := by omega
theorem lane_lt {n j : ℕ} (h : j < n) (hn : n = 512) : j / 128 < 4 := by omega

/-- The decoded weights the body leaves in its scratch. -/
def wBody (t : Vec F S16x128 .i32) (q : Vec F S512x3072 .i8) (a : Vec F S6x512 .bf16) : Vec F S6144x512 .bf16 := fun z =>
  wPay t q a ((z 0 : ℕ) / 256) ((z 1 : ℕ) / 128) (row_lt (z 0).isLt rfl) (lane_lt (z 1).isLt rfl) ((z 0 : ℕ) % 256 / 16) (by omega)
    (ValueIdx.ix2 (n0 := 16) (n1 := 128) ⟨(z 0 : ℕ) % 16, Nat.mod_lt _ (by decide)⟩ ⟨(z 1 : ℕ) % 128, Nat.mod_lt _ (by decide)⟩)

theorem wBody_eq (t : Vec F S16x128 .i32) (q : Vec F S512x3072 .i8) (a : Vec F S6x512 .bf16) (j n : ℕ) (hj : j < 24) (hn : n < 4) (v : ℕ) (hv : v < 16)
    (z : S6144x512.Idx) (i : S16x128.Idx) (h0 : (z 0 : ℕ) = j * 256 + v * 16 + (i 0 : ℕ)) (h1 : (z 1 : ℕ) = n * 128 + (i 1 : ℕ)) :
    wPay t q a j n hj hn v hv i = wBody t q a z := by
  have hi0 : (i 0 : ℕ) < 16 := (i 0).isLt
  have hi1 : (i 1 : ℕ) < 128 := (i 1).isLt
  have key : ∀ (j' n' : ℕ) (hj' : j' < 24) (hn' : n' < 4) (v' : ℕ) (hv' : v' < 16) (i' : S16x128.Idx), j' = j → n' = n → v' = v → i' = i →
      wPay t q a j n hj hn v hv i = wPay t q a j' n' hj' hn' v' hv' i' := by
    intro j' n' hj' hn' v' hv' i' e1 e2 e3 e4; subst e1 e2 e3 e4; rfl
  refine key _ _ _ _ _ _ _ (by omega) (by omega) (by omega) ?_
  refine (funext fun b => ?_)
  fin_cases b
  · exact Fin.ext (by show (z 0 : ℕ) % 16 = (i 0 : ℕ); omega)
  · exact Fin.ext (by show (z 1 : ℕ) % 128 = (i 1 : ℕ); omega)

/-- The block of the product the body leaves. -/
def mmBody (x : Vec F S864x6144 .bf16) (t : Vec F S16x128 .i32) (q : Vec F S512x3072 .i8) (a : Vec F S6x512 .bf16) : Vec F S864x512 .bf16 :=
  mmOut x (wBody t q a)

section MatRule
variable (c : Dev nD) (E : Set ℕ) (defs : Defs nD τ sig (Elt F) Λ₀)
variable (arg2 : Memref sig .tc .vmem S864x6144 .bf16) (harg2 : arg2.IsWhole) (arg3 : Memref sig .tc .vmem S16x128 .i32) (harg3 : arg3.IsWhole) (arg4 : Memref sig .tc .vmem S512x3072 .i8) (harg4 : arg4.IsWhole) (arg5 : Memref sig .tc .vmem S6x512 .bf16) (harg5 : arg5.IsWhole) (arg6 : Memref sig .tc .vmem S864x512 .bf16) (harg6 : arg6.IsWhole) (arg7 : Memref sig .tc .vmem S6144x512 .bf16) (harg7 : arg7.IsWhole)
variable (x : Vec F S864x6144 .bf16) (t : Vec F S16x128 .i32) (q : Vec F S512x3072 .i8) (a : Vec F S6x512 .bf16)

/-- The body's state with the first `b` blocks, and `v` strips of the next, decoded. -/
def mmInv (P : sProp 𝕄) (b v : ℕ) : sProp 𝕄 :=
  iprop((P ∗ owns (c : Thread nD τ) arg4 fullShare q ∗ owns (c : Thread nD τ) arg5 fullShare a)
    ∗ ∃ d : Vec F S6144x512 .bf16, ⌜∀ z : S6144x512.Idx,
        ((z 0 : ℕ) / 256 * 4 + (z 1 : ℕ) / 128 < b ∨ ((z 0 : ℕ) / 256 * 4 + (z 1 : ℕ) / 128 = b ∧ (z 0 : ℕ) % 256 / 16 < v)) → d z = wBody t q a z⌝
      ∗ owns (c : Thread nD τ) arg7 fullShare d)

theorem mmStrip_rule (Q : PUnit → sProp 𝕄) (P : sProp 𝕄) (j n : ℕ) (hj : j < 24) (hn : n < 4) (v : ℕ) (hv : v < 16) (k : PGm F)
    (h : mmInv c arg4 arg5 arg7 t q a P (j * 4 + n) (v + 1) ⊢ wp frame (wpE defs Variants.none c none) E k Q) :
    mmInv c arg4 arg5 arg7 t q a P (j * 4 + n) v ⊢ wp frame (wpE defs Variants.none c none) E
      (mmStrip arg7 harg7 (lutHalf t 0 (by omega)) (lutHalf t 8 (by omega)) (codeBlk q j n hj hn) (scaleRow a j n hj hn) j n hj hn v hv k) Q := by
  unfold mmStrip
  unfold mmInv at *
  iintro ⟨H, ⟨%d, %hd, H3⟩⟩
  iapply (ld_rule c E (defs := defs) Q arg7 (Rect.unit (s := S6144x512) ![j * 256 + v * 16, n * 128] S16x128.size (inbT _ _ (by omega) (by omega))) d) $$ [H3]
  · iexact H3
  iintro H3
  iapply (st_rule c E (defs := defs) Q arg7 (Rect.unit (s := S6144x512) ![j * 256 + v * 16, n * 128] S16x128.size (inbT _ _ (by omega) (by omega))) d
    (iprop(P ∗ owns (c : Thread nD τ) arg4 fullShare q ∗ owns (c : Thread nD τ) arg5 fullShare a)) ?_)
  · intro y h1 h2
    refine Entails.trans (sep_mono_right ?_) h
    iintro H
    iexists y
    isplitr
    · ipureintro
      intro z hz
      have hz0 : (z 0 : ℕ) < 6144 := (z 0).isLt
      have hz1 : (z 1 : ℕ) < 512 := (z 1).isLt
      rcases piece_cases h1 h2 z with ⟨i, e0, e1, e⟩ | ⟨hne, e⟩
      · rw [e]; exact wBody_eq t q a j n hj hn v hv z i e0 e1
      · rw [e]; exact hd z (by omega)
    iexact H
  isplitl [H]; · iexact H
  iexact H3

theorem mmBlock_rule (Q : PUnit → sProp 𝕄) (P : sProp 𝕄) (j n : ℕ) (hj : j < 24) (hn : n < 4) (k : PGm F)
    (h : mmInv c arg4 arg5 arg7 t q a P (j * 4 + n + 1) 0 ⊢ wp frame (wpE defs Variants.none c none) E k Q) :
    mmInv c arg4 arg5 arg7 t q a P (j * 4 + n) 0 ⊢ wp frame (wpE defs Variants.none c none) E
      (mmBlock arg4 arg5 arg7 harg7 (lutHalf t 0 (by omega)) (lutHalf t 8 (by omega)) j n hj hn k) Q := by
  have hl := loop_rule c E (defs := defs) Q (n := 16)
    (body := fun v hv k => mmStrip arg7 harg7 (lutHalf t 0 (by omega)) (lutHalf t 8 (by omega)) (codeBlk q j n hj hn) (scaleRow a j n hj hn) j n hj hn v hv k) (fin := k)
    (fun v => mmInv c arg4 arg5 arg7 t q a P (j * 4 + n) v)
    (fun v hv k hk => mmStrip_rule c E defs arg4 arg5 arg7 harg7 t q a Q P j n hj hn v hv k hk)
    (by
      refine BIBase.Entails.trans ?_ h
      unfold mmInv
      iintro ⟨H, ⟨%d, %hd, H3⟩⟩
      isplitl [H]; · iexact H
      iexists d
      isplitr
      · ipureintro
        intro z hz
        exact hd z (by omega)
      iexact H3) 16 le_rfl
  unfold mmBlock
  have hl' : mmInv c arg4 arg5 arg7 t q a P (j * 4 + n) 0 ⊢ _ := hl
  unfold mmInv at hl' ⊢
  iintro ⟨⟨HP, H1, H2⟩, H3⟩
  iapply (ld_rule c E (defs := defs) Q arg4 (Rect.unit (s := S512x3072) ![n * 128, j * 128] S128x128.size (inbC _ _ (by omega) (by omega))) q) $$ [H1]
  · iexact H1
  iintro H1
  iapply (ld_rule c E (defs := defs) Q arg5 (Rect.unit (s := S6x512) ![j / 4, n * 128] S1x128.size (inbW _ _ (by omega) (by omega))) a) $$ [H2]
  · iexact H2
  iintro H2
  iapply hl'
  isplitl [HP H1 H2]
  · isplitl [HP]; · iexact HP
    isplitl [H1]; · iexact H1
    iexact H2
  iexact H3

/-- The matmul's body, on whole memrefs: the output's memref ends at `mmBody` of the inputs. -/
theorem mm_triple (K : PUnit → sProp 𝕄) :
    iprop(owns (c : Thread nD τ) arg2 fullShare x ∗ owns (c : Thread nD τ) arg3 fullShare t ∗ owns (c : Thread nD τ) arg4 fullShare q ∗ owns (c : Thread nD τ) arg5 fullShare a
        ∗ (∃ d, owns (c : Thread nD τ) arg6 fullShare d) ∗ (∃ d, owns (c : Thread nD τ) arg7 fullShare d)
        ∗ (iprop(owns (c : Thread nD τ) arg2 fullShare x ∗ owns (c : Thread nD τ) arg3 fullShare t ∗ owns (c : Thread nD τ) arg4 fullShare q ∗ owns (c : Thread nD τ) arg5 fullShare a
            ∗ owns (c : Thread nD τ) arg6 fullShare (mmBody x t q a) ∗ (∃ d, owns (c : Thread nD τ) arg7 fullShare d)) -∗ K ⟨⟩))
      ⊢ wp frame (wpE defs Variants.none c none) E (mmRoll arg2 arg3 arg4 arg5 arg6 harg6 arg7 harg7) K := by
  have hl := loop_rule c E (defs := defs) K (n := 96)
    (body := fun b hb k => mmBlock arg4 arg5 arg7 harg7 (lutHalf t 0 (by omega)) (lutHalf t 8 (by omega)) (b / 4) (b % 4) (by omega) (by omega) k)
    (fin := mmTail arg2 arg6 harg6 arg7)
    (fun b => mmInv c arg4 arg5 arg7 t q a
      (iprop(owns (c : Thread nD τ) arg2 fullShare x ∗ owns (c : Thread nD τ) arg3 fullShare t ∗ (∃ d, owns (c : Thread nD τ) arg6 fullShare d)
        ∗ (iprop(owns (c : Thread nD τ) arg2 fullShare x ∗ owns (c : Thread nD τ) arg3 fullShare t ∗ owns (c : Thread nD τ) arg4 fullShare q ∗ owns (c : Thread nD τ) arg5 fullShare a
            ∗ owns (c : Thread nD τ) arg6 fullShare (mmBody x t q a) ∗ (∃ d, owns (c : Thread nD τ) arg7 fullShare d)) -∗ K ⟨⟩))) b 0)
    (fun b hb k hk => by
      have h := mmBlock_rule c E defs arg4 arg5 arg7 harg7 t q a K _ (b / 4) (b % 4) (by omega) (by omega) k (by
        rw [show b / 4 * 4 + b % 4 + 1 = b + 1 by omega]; exact hk)
      rwa [show b / 4 * 4 + b % 4 = b by omega] at h)
    (by
      unfold mmInv mmTail
      iintro ⟨⟨⟨H0, H1, ⟨%o, H4⟩, HK⟩, H2, H3⟩, ⟨%d, %hd, H5⟩⟩
      have e : d = wBody t q a := funext fun z => hd z (by
        have : (z 0 : ℕ) < 6144 := (z 0).isLt
        have : (z 1 : ℕ) < 512 := (z 1).isLt
        omega)
      subst e
      iapply (ld_rule c E (defs := defs) K arg2 (Rect.unit (s := S864x6144) ![0, 0] S864x6144.size inb_S864x6144_S864x6144_0_0) x) $$ [H0]
      · iexact H0
      iintro H0
      iapply (ld_rule c E (defs := defs) K arg7 (Rect.unit (s := S6144x512) ![0, 0] S6144x512.size inb_S6144x512_S6144x512_0_0) (wBody t q a)) $$ [H5]
      · iexact H5
      iintro H5
      iapply (ld_rule c E (defs := defs) K arg6 (Rect.unit (s := S864x512) ![0, 0] S864x512.size inb_S864x512_S864x512_0_0) o) $$ [H4]
      · iexact H4
      iintro H4
      have hz : (![0, 0] : Fin 2 → ℕ) = fun _ => 0 := funext fun b => by fin_cases b <;> rfl
      rw [View.ld_unit_zero (S := S864x6144) hz, View.ld_unit_zero (S := S6144x512) hz]
      iapply (st_rule c E (defs := defs) K arg6 (Rect.unit (s := S864x512) ![0, 0] S864x512.size inb_S864x512_S864x512_0_0) o
        (iprop(owns (c : Thread nD τ) arg2 fullShare x ∗ owns (c : Thread nD τ) arg3 fullShare t ∗ owns (c : Thread nD τ) arg4 fullShare q ∗ owns (c : Thread nD τ) arg5 fullShare a
          ∗ owns (c : Thread nD τ) arg7 fullShare (wBody t q a)
          ∗ (iprop(owns (c : Thread nD τ) arg2 fullShare x ∗ owns (c : Thread nD τ) arg3 fullShare t ∗ owns (c : Thread nD τ) arg4 fullShare q ∗ owns (c : Thread nD τ) arg5 fullShare a
            ∗ owns (c : Thread nD τ) arg6 fullShare (mmBody x t q a) ∗ (∃ d, owns (c : Thread nD τ) arg7 fullShare d)) -∗ K ⟨⟩))) ?_)
      · intro y h1 h2
        have e : y = mmBody x t q a := funext fun z => by
          rcases piece_cases h1 h2 z with ⟨i, e0, e1, e⟩ | ⟨hne, e⟩
          · rw [e]
            have : i = z := funext fun b => by
              fin_cases b
              · exact Fin.ext (by show (i 0 : ℕ) = (z 0 : ℕ); omega)
              · exact Fin.ext (by show (i 1 : ℕ) = (z 1 : ℕ); omega)
            rw [this]; rfl
          · have h0 : (z 0 : ℕ) < 864 := (z 0).isLt
            have h1 : (z 1 : ℕ) < 512 := (z 1).isLt
            exact absurd ⟨⟨Nat.zero_le _, by omega⟩, ⟨Nat.zero_le _, by omega⟩⟩ hne
        subst e
        iintro ⟨⟨H0, H1, H2, H3, H5, HK⟩, H4⟩
        sl_step
        iapply HK
        isplitl [H0]; · iexact H0
        isplitl [H1]; · iexact H1
        isplitl [H2]; · iexact H2
        isplitl [H3]; · iexact H3
        isplitl [H4]; · iexact H4
        iexists _; iexact H5
      isplitr [H4]
      · isplitl [H0]; · iexact H0
        isplitl [H1]; · iexact H1
        isplitl [H2]; · iexact H2
        isplitl [H3]; · iexact H3
        isplitl [H5]; · iexact H5
        iexact HK
      iexact H4) 96 le_rfl
  have hl' : iprop(owns (c : Thread nD τ) arg2 fullShare x ∗ owns (c : Thread nD τ) arg3 fullShare t ∗ owns (c : Thread nD τ) arg4 fullShare q ∗ owns (c : Thread nD τ) arg5 fullShare a
        ∗ (∃ d, owns (c : Thread nD τ) arg6 fullShare d) ∗ (∃ d, owns (c : Thread nD τ) arg7 fullShare d)
        ∗ (iprop(owns (c : Thread nD τ) arg2 fullShare x ∗ owns (c : Thread nD τ) arg3 fullShare t ∗ owns (c : Thread nD τ) arg4 fullShare q ∗ owns (c : Thread nD τ) arg5 fullShare a
            ∗ owns (c : Thread nD τ) arg6 fullShare (mmBody x t q a) ∗ (∃ d, owns (c : Thread nD τ) arg7 fullShare d)) -∗ K ⟨⟩)) ⊢ _ := BIBase.Entails.trans (by
    unfold mmInv
    iintro ⟨H0, H1, H2, H3, H4, ⟨%d, H5⟩, HK⟩
    isplitr [H5]
    · isplitl [H0 H1 H4 HK]
      · isplitl [H0]; · iexact H0
        isplitl [H1]; · iexact H1
        isplitl [H4]; · iexact H4
        iexact HK
      isplitl [H2]; · iexact H2
      iexact H3
    iexists d
    isplitr
    · ipureintro; intro z hz; omega
    iexact H5) hl
  unfold lutHalf at hl'
  unfold mmRoll
  iintro ⟨H0, H1, H2, H3, H4, H5, HK⟩
  iapply (ld_rule c E (defs := defs) K arg3 (Rect.unit (s := S16x128) ![0, 0] S8x128.size inb_S16x128_S8x128_0_0) t) $$ [H1]
  · iexact H1
  iintro H1
  iapply (ld_rule c E (defs := defs) K arg3 (Rect.unit (s := S16x128) ![8, 0] S8x128.size inb_S16x128_S8x128_8_0) t) $$ [H1]
  · iexact H1
  iintro H1
  iapply hl'
  isplitl [H0]; · iexact H0
  isplitl [H1]; · iexact H1
  isplitl [H2]; · iexact H2
  isplitl [H3]; · iexact H3
  isplitl [H4]; · iexact H4
  isplitl [H5]; · iexact H5
  iexact HK

end MatRule

end Cert.KernelIdeal.Roll

end
-- ==== Proof.MatEq.lean ====
/- The printed body of the matmul kernel is the loop of `MatRoll`. -/
module

public import proofs.«01_k».proof.KernelIdeal
public import proofs.«01_k».proof.Proof.MatRoll

@[expose] public section

set_option maxRecDepth 16384

noncomputable section

namespace Cert.KernelIdeal.Roll

open Idealize.ShloMosaic Idealize.SL.Sem
open Cert.KernelIdeal

variable {F : FTy → Type} [FloatOps F]
variable [Facts]
open Facts
open Shapes1.Facts₀ Shapes4.Facts₀

section Prog
variable (arg2 : Memref sig .tc .vmem S864x6144 .bf16) (harg2 : arg2.IsWhole) (arg3 : Memref sig .tc .vmem S16x128 .i32) (harg3 : arg3.IsWhole) (arg4 : Memref sig .tc .vmem S512x3072 .i8) (harg4 : arg4.IsWhole) (arg5 : Memref sig .tc .vmem S6x512 .bf16) (harg5 : arg5.IsWhole) (arg6 : Memref sig .tc .vmem S864x512 .bf16) (harg6 : arg6.IsWhole) (arg7 : Memref sig .tc .vmem S6144x512 .bf16) (harg7 : arg7.IsWhole)

theorem mm_eq_roll (i : grid1.Coords) :
    cc1__matmul_kernel (F := F) i arg2 harg2 arg3 harg3 arg4 harg4 arg5 harg5 arg6 harg6 arg7 harg7 = mmRoll arg2 arg3 arg4 arg5 arg6 harg6 arg7 harg7 := by
  chain_rfl

end Prog

end Cert.KernelIdeal.Roll

end
-- ==== Proof.RunI.lean ====
/- The run of `proofs.«01_k».proof.KernelIdeal` from the launch to the return: the two kernels over their grids, the host
   operations around them, and what every buffer holds at the end. -/
module

public import proofs.«01_k».proof.Proof.Gen.KernelIdeal.Launch
public import proofs.«01_k».proof.Proof.Gen.KernelIdeal.Points
public import proofs.«01_k».proof.Proof.Body
public import proofs.«01_k».proof.Proof.MatEq
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Roll
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__rotate_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The rotation's body on whole staging memrefs. -/
theorem sound_kernel0 (c : Dev nD) (E : Set ℕ) (i : grid0.Coords) (arg1 : Memref sig .tc .vmem S432x6144 .bf16) (harg1 : arg1.IsWhole) (arg2 : Memref sig .tc .vmem S1x6144 .i8) (harg2 : arg2.IsWhole) (arg3 : Memref sig .tc .vmem S432x6144 .bf16) (harg3 : arg3.IsWhole)
    (x0 : Vec F S432x6144 .bf16) (x1 : Vec F S1x6144 .i8) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (rotBody x0 x1)) -∗ K ⟨⟩))
      ⊢ wp frame (wpE (defs₀ (F := F)) Variants.none c none) E (cc0__rotate_kernel i arg1 harg1 arg2 harg2 arg3 harg3) K := by
  rw [rot_eq_roll]
  exact rot_triple c E defs₀ arg1 arg2 arg3 harg3 x0 x1 K i

/-! ## The pipeline's proof data -/

/-- The proof data of pipeline 0 on core `c`: the arrays as the region finds them (`V`); after the body at
    point `t` each input's buffer at its block and each output's at its closed form of the input blocks; the invariant the
    class's; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => rotBody (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = rotBody (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1__matmul_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- Each window's current staging memref at point `t`, spelled as the pipeline passes it (`bodyAt1`), and its wholeness. -/
abbrev ms1_0 (t : Fin cfg1.N) : Memref sig .tc .vmem S864x6144 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16x128 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x3072 .i8 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S6x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S864x512 .bf16 := win1_4.stage (cfg1.slots t 4)
abbrev hs1_4 (t : Fin cfg1.N) : (ms1_4 t).IsWhole := hstage1_4 ((cfg1.slots t 4).cast nbuf1_4)
/-- The scratch operands: whole scoped buffers of the kernel's own, passed beside the windows. -/
abbrev scM1_0 : Memref sig .tc .vmem S6144x512 .bf16 := Memref.whole cc1_scratch0

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
  unfold Pipeline.ΦA; rw [scopedRest1_eq]; simp only [scM1_0, owns_whole]; try rfl

/-- The matmul's body on whole staging memrefs and its scratch. -/
theorem sound_kernel1 (c : Dev nD) (E : Set ℕ) (i : grid1.Coords) (arg2 : Memref sig .tc .vmem S864x6144 .bf16) (harg2 : arg2.IsWhole) (arg3 : Memref sig .tc .vmem S16x128 .i32) (harg3 : arg3.IsWhole) (arg4 : Memref sig .tc .vmem S512x3072 .i8) (harg4 : arg4.IsWhole) (arg5 : Memref sig .tc .vmem S6x512 .bf16) (harg5 : arg5.IsWhole) (arg6 : Memref sig .tc .vmem S864x512 .bf16) (harg6 : arg6.IsWhole) (arg7 : Memref sig .tc .vmem S6144x512 .bf16) (harg7 : arg7.IsWhole)
    (x0 : Vec F S864x6144 .bf16) (x1 : Vec F S16x128 .i32) (x2 : Vec F S512x3072 .i8) (x3 : Vec F S6x512 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (mmBody x0 x1 x2 x3) ∗ (∃ d, owns (c : Thread nD τ) arg7 fullShare d)) -∗ K ⟨⟩))
      ⊢ wp frame (wpE (defs₀ (F := F)) Variants.none c none) E (cc1__matmul_kernel i arg2 harg2 arg3 harg3 arg4 harg4 arg5 harg5 arg6 harg6 arg7 harg7) K := by
  rw [mm_eq_roll]
  exact mm_triple c E defs₀ arg2 arg3 arg4 arg5 arg6 harg6 arg7 harg7 x0 x1 x2 x3 K

/-! ## The pipeline's proof data -/

/-- The proof data of pipeline 1 on core `c`: the arrays as the region finds them (`V`); after the body at
    point `t` each input's buffer at its block and the outputs' at their closed form; the invariant the class's
   ; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => mmBody (iblk1 V c 0 t) (iblk1 V c 1 t) (iblk1 V c 2 t) (iblk1 V c 3 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = mmBody (iblk1 V c 0 t) (iblk1 V c 1 t) (iblk1 V c 2 t) (iblk1 V c 3 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  rw [show (dat1 V c).Φ t.castSucc = Pipeline.ΦA spec1 c from rfl, PhiA1_eq]
  iintro ⟨⟨⟨HR0, HR1, HR2, HR3, HR4, HS0⟩, Hg⟩, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, H4, HS0⟩
  isplitl [HR0 HR1 HR2 HR3 HR4 HS0 Hg]
  · isplitl [HR0 HR1 HR2 HR3 HR4 HS0]
    · isplitl [HR0]
      · iexact HR0
      isplitl [HR1]
      · iexact HR1
      isplitl [HR2]
      · iexact HR2
      isplitl [HR3]
      · iexact HR3
      isplitl [HR4]
      · iexact HR4
      iexact HS0
    iexact Hg
  isplitl [Ho]; · iexact Ho
  isplitl [H0]; · iexact H0
  isplitl [H1]; · iexact H1
  isplitl [H2]; · iexact H2
  isplitl [H3]; · iexact H3
  iexact H4

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return -/

/-- @main's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v3, main_v4, main_c, main_v5, main_v6, main_c_0, main_v7, main_v8, main_c_1, main_v9, main_v10, main_v11, main_v12, main_v13, main_c_2, main_v14, main_v15, main_c_3, main_v16, main_v17, main_c_4, main_v18, main_v19, main_v20, main_v21, main_v22, main_c_5, main_v23, main_v24, main_v25, main_v26, main_v27, main_v28, main_v29, main_v30, main_v31]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v33, main_v34]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- Every weakly fair execution of @main terminates without a fault, and at the end every buffer of the
    TensorCore that is not scoped holds what the last boundary's contents say, with every counter at zero. -/
theorem run_all : θ_run defs (onTc (τ := τ) (main (F := F))) ⟨m, fun _ => 0, ρ⟩ (fun r => (∀ c : Dev nD, ∀ b ∈ Pipeline.ucRefs τ sig,
      r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c),
       (h.1 c _ (mem_uc main_arg4 (by decide))).trans (W5_main_arg4 m ρ c)⟩, h.2⟩) (run_all m ρ)

end Cert.KernelIdeal.Run

end
-- ==== Proof.KRotRoll.lean ====
/- The rotation kernel's body written as a loop over the six groups of 1024 columns, and the proof
   that the printed body is that loop. -/
module

public import proofs.«01_k».proof.Kernel.P01
public import Idealize.ShloMosaic.Lib.Pipeline.Regions

@[expose] public section

set_option maxRecDepth 16384

noncomputable section

namespace Cert.Kernel.Roll

open Idealize.ShloMosaic Idealize.SL.Sem
open Cert.Kernel

variable {F : FTy → Type} [FloatOps F]
variable [Facts]
open Facts
open Shapes1.Facts₀ Shapes4.Facts₀

/-- `n` steps in order and then `fin`: with `k` steps to go, step `n - k` comes next. -/
def loopC {α : Type*} (n : ℕ) (body : (i : ℕ) → i < n → α → α) (fin : α) (k : ℕ) : k ≤ n → α :=
  Nat.rec (motive := fun k => k ≤ n → α) (fun _ => fin)
    (fun k ih h => body (n - (k + 1)) (by omega) (ih (Nat.le_of_succ_le h))) k

theorem inbX (c : ℕ) (hc : c + 256 ≤ 6144) : ∀ a, (![0, c] : Fin 2 → Nat) a + S432x256.size a ≤ S432x6144.size a := by
  intro a; fin_cases a
  · exact le_of_eq rfl
  · exact hc
theorem inbS (c : ℕ) (hc : c + 256 ≤ 6144) : ∀ a, (![0, c] : Fin 2 → Nat) a + S1x256.size a ≤ S1x6144.size a := by
  intro a; fin_cases a
  · exact le_of_eq rfl
  · exact hc
theorem packX (c : ℕ) (hc : c + 256 ≤ 6144) :
    (Rect.unit (s := S432x6144) ![0, c] S432x256.size (inbX c hc)).PackedRows (EltTy.packing .bf16) :=
  .inr ⟨by decide, rfl, .inl ⟨⟨0, rfl⟩, ⟨216, rfl⟩⟩⟩

/-- The 256 × 256 sign matrix the kernel builds from the parity of the bits of `i &&& k`. -/
def hmat : FVec F S256x256 .bf16 :=
  let v0 : IVec S256x256 32 := iota .tc S256x256 32 [0] iota_S256x256_d0_w32
  let v1 : IVec S256x256 32 := iota .tc S256x256 32 [1] iota_S256x256_d1_w32
  let v2 : IVec S256x256 32 := andi v0 v1
  let v5 : IVec S256x256 32 := xori v2 (shrsi v2 (broadcast S256x256 8#32))
  let v8 : IVec S256x256 32 := xori v5 (shrsi v5 (broadcast S256x256 4#32))
  let v11 : IVec S256x256 32 := xori v8 (shrsi v8 (broadcast S256x256 2#32))
  let v14 : IVec S256x256 32 := xori v11 (shrsi v11 (broadcast S256x256 1#32))
  let v16 : IVec S256x256 32 := andi v14 (broadcast S256x256 1#32)
  let v20 : IVec S256x256 32 := subi (broadcast S256x256 1#32) (muli (broadcast S256x256 2#32) v16)
  truncf .bf16 (sitofp .f32 v20) bitsLt_bf16_f32

/-- One 256-wide piece of a row block: its sign-flipped columns times the sign matrix. -/
def rotDot (x : FVec F S432x256 .bf16) (s : IVec S1x256 8) : FVec F S432x256 .f32 :=
  matmul dot_S432x256_S256x256_S432x256_1_0_0_1_n_n none
    (mulf (shapeCast S432x256 x shapeCasts_S432x256_S432x256)
      (broadcastTo S432x256 (sitofp .bf16 (shapeCast S1x256 s shapeCasts_S1x256_S1x256)) broadcasts_S1x256_S432x256))
    hmat (constant S432x256 .f32 0x00000000#32)

/-- Scaled by 1/32 and rounded. -/
def rotOut (v : FVec F S432x256 .f32) : FVec F S432x256 .bf16 :=
  truncf .bf16 (mulf v (broadcast S432x256 (Scalar.ofBits .f32 0x3D000000#32))) bitsLt_bf16_f32

/-- A kernel body's program. -/
abbrev PGm (F : FTy → Type) := Prog (TpuEff nD τ sig (Elt F) Λ₀ .tc) PUnit

section Prog
variable (arg1 : Memref sig .tc .vmem S432x6144 .bf16) (harg1 : arg1.IsWhole) (arg2 : Memref sig .tc .vmem S1x6144 .i8) (harg2 : arg2.IsWhole) (arg3 : Memref sig .tc .vmem S432x6144 .bf16) (harg3 : arg3.IsWhole)

/-- Load the piece of columns from `c`, and go on with its product. -/
def rotLoad (c : ℕ) (hc : c + 256 ≤ 6144) (k : FVec F S432x256 .f32 → PGm F) : PGm F :=
  Prog.op (.load arg1 (Rect.unit (s := S432x6144) ![0, c] S432x256.size (inbX c hc)).toLoadRect (View.loadsAt_vmem h_S432x256))
    fun (x : Vec F S432x256 .bf16) =>
  Prog.op (.load arg2 (Rect.unit (s := S1x6144) ![0, c] S1x256.size (inbS c hc)).toLoadRect (View.loadsAt_vmem h_S1x256))
    fun (s : Vec F S1x256 .i8) => k (rotDot x s)

/-- Store a piece at the columns from `c` (the load before it is not used). -/
def rotStore (c : ℕ) (hc : c + 256 ≤ 6144) (v : FVec F S432x256 .bf16) (k : PGm F) : PGm F :=
  Prog.op (.load arg3 (Rect.unit (s := S432x6144) ![0, c] S432x256.size (inbX c hc)).toLoadRect (View.loadsAt_vmem h_S432x256))
    fun (_ : Vec F S432x256 .bf16) =>
  Prog.op (.store arg3 (Rect.unit (s := S432x6144) ![0, c] S432x256.size (inbX c hc)) v Finset.univ
      (View.stores_vmem h_S432x256 (harg3.storeExact_slice rfl _ (packX c hc)) (fun _ => rfl)) (.inl rfl)) fun _ => k

/-- One group of 1024 columns. -/
def rotGroup (j : ℕ) (hj : j < 6) (k : PGm F) : PGm F :=
  rotLoad arg1 arg2 (j * 1024) (by omega) fun p0 =>
  rotLoad arg1 arg2 (j * 1024 + 256) (by omega) fun p1 =>
  rotLoad arg1 arg2 (j * 1024 + 512) (by omega) fun p2 =>
  rotLoad arg1 arg2 (j * 1024 + 768) (by omega) fun p3 =>
  rotStore arg3 harg3 (j * 1024) (by omega) (rotOut (addf (addf p0 p1) (addf p2 p3))) <|
  rotStore arg3 harg3 (j * 1024 + 256) (by omega) (rotOut (addf (subf p0 p1) (subf p2 p3))) <|
  rotStore arg3 harg3 (j * 1024 + 512) (by omega) (rotOut (subf (addf p0 p1) (addf p2 p3))) <|
  rotStore arg3 harg3 (j * 1024 + 768) (by omega) (rotOut (subf (subf p0 p1) (subf p2 p3))) k

/-- The whole body as six groups. -/
def rotRoll : PGm F :=
  loopC 6 (fun j hj k => rotGroup arg1 arg2 arg3 harg3 j hj k) (Prog.ret ⟨⟩) 6 le_rfl

theorem rot_eq_roll (i : grid0.Coords) :
    cc0__rotate_kernel (F := F) i arg1 harg1 arg2 harg2 arg3 harg3 = rotRoll arg1 arg2 arg3 harg3 := by
  chain_rfl

end Prog

end Cert.Kernel.Roll

end
-- ==== Proof.KMatRoll.lean ====
/- The matmul kernel's body written as a loop over the 24 × 4 blocks of codes and the 16 strips of
   each. -/
module

public import proofs.«01_k».proof.Proof.KRotRoll

@[expose] public section

set_option maxRecDepth 16384

noncomputable section

namespace Cert.Kernel.Roll

open Idealize.ShloMosaic Idealize.SL.Sem
open Cert.Kernel

variable {F : FTy → Type} [FloatOps F]
variable [Facts]
open Facts
open Shapes1.Facts₀ Shapes4.Facts₀

theorem inbC (a b : ℕ) (ha : a + 128 ≤ 512) (hb : b + 128 ≤ 3072) :
    ∀ x, (![a, b] : Fin 2 → Nat) x + S128x128.size x ≤ S512x3072.size x := by
  intro x; fin_cases x
  · exact ha
  · exact hb
theorem inbW (a b : ℕ) (ha : a + 1 ≤ 6) (hb : b + 128 ≤ 512) :
    ∀ x, (![a, b] : Fin 2 → Nat) x + S1x128.size x ≤ S6x512.size x := by
  intro x; fin_cases x
  · exact ha
  · exact hb
theorem inbT (a b : ℕ) (ha : a + 16 ≤ 6144) (hb : b + 128 ≤ 512) :
    ∀ x, (![a, b] : Fin 2 → Nat) x + S16x128.size x ≤ S6144x512.size x := by
  intro x; fin_cases x
  · exact ha
  · exact hb
theorem slicesV (a : ℕ) (ha : a + 8 ≤ 128) : S128x128.Slices ![a, 0] S8x128 := by
  refine ⟨rfl, fun x => ?_⟩; fin_cases x
  · exact ha
  · exact le_of_eq rfl
theorem packT (a b : ℕ) (ha : a + 16 ≤ 6144) (hb : b + 128 ≤ 512) (h2 : 2 ∣ a) :
    (Rect.unit (s := S6144x512) ![a, b] S16x128.size (inbT a b ha hb)).PackedRows (EltTy.packing .bf16) := by
  obtain ⟨c, rfl⟩ := h2
  exact .inr ⟨by decide, rfl, .inl ⟨⟨c, rfl⟩, ⟨8, rfl⟩⟩⟩

/-- The bytes' table words: the low half of the table where the byte is below 128, the high half elsewhere. -/
def words (lo hi : IVec S8x128 32) (b : IVec S8x128 32) : IVec S8x128 32 :=
  let n : IVec S8x128 32 := andi b (broadcast S8x128 127#32)
  let i : IVec S8x128 32 := shapeCast S8x128 (shapeCast S8x128x1
    (select (cmpi .slt n (broadcast S8x128 0#32)) (addi n (broadcast S8x128 128#32)) n)
    shapeCasts_S8x128_S8x128x1) shapeCasts_S8x128x1_S8x128
  select (cmpi .slt b (broadcast S8x128 128#32)) (dynamicGather 1 lo i) (dynamicGather 1 hi i)

/-- A strip of sixteen decoded and scaled rows: the words of eight rows of bytes as pairs of halves. -/
def strip (lo hi : IVec S8x128 32) (t : IVec S128x128 32) (sc : FVec F S1x128 .bf16) (v : ℕ) (hv : v < 16) :
    FVec F S16x128 .bf16 :=
  shapeCast S16x128
    (mulf (bitcastToFloat .bf16 (bitcast S16x128 16
        (words lo hi (extractStridedSlice S8x128 ![v * 8, 0] t (slicesV (v * 8) (by omega)))) bitcasts_S8x128_w32_S16x128_w16))
      (broadcastTo S16x128 sc broadcasts_S1x128_S16x128))
    shapeCasts_S16x128_S16x128

/-- A block of codes, widened and turned so that its rows run along the contraction. -/
def turned (b : IVec S128x128 8) : IVec S128x128 32 :=
  transpose S128x128 [1, 0] (extui 32 b natLt_8_32) transposes_S128x128_p1_0_S128x128

/-- The product of the block of rows with the decoded weights, rounded. -/
def mmOut (x : FVec F S864x6144 .bf16) (w : FVec F S6144x512 .bf16) : FVec F S864x512 .bf16 :=
  truncf .bf16 (matmul dot_S864x6144_S6144x512_S864x512_1_0_0_1_n_n none
    (shapeCast S864x6144 x shapeCasts_S864x6144_S864x6144) w (constant S864x512 .f32 0x00000000#32)) bitsLt_bf16_f32

section Prog
variable (arg2 : Memref sig .tc .vmem S864x6144 .bf16) (harg2 : arg2.IsWhole) (arg3 : Memref sig .tc .vmem S16x128 .i32) (harg3 : arg3.IsWhole) (arg4 : Memref sig .tc .vmem S512x3072 .i8) (harg4 : arg4.IsWhole) (arg5 : Memref sig .tc .vmem S6x512 .bf16) (harg5 : arg5.IsWhole) (arg6 : Memref sig .tc .vmem S864x512 .bf16) (harg6 : arg6.IsWhole) (arg7 : Memref sig .tc .vmem S6144x512 .bf16) (harg7 : arg7.IsWhole)

/-- Store strip `v` of block `(j, n)` (the load before it is not used). -/
def mmStrip (lo hi : IVec S8x128 32) (t : IVec S128x128 32) (sc : FVec F S1x128 .bf16) (j n : ℕ) (hj : j < 24) (hn : n < 4)
    (v : ℕ) (hv : v < 16) (k : PGm F) : PGm F :=
  Prog.op (.load arg7 (Rect.unit (s := S6144x512) ![j * 256 + v * 16, n * 128] S16x128.size (inbT _ _ (by omega) (by omega))).toLoadRect (View.loadsAt_vmem h_S16x128))
    fun (_ : Vec F S16x128 .bf16) =>
  Prog.op (.store arg7 (Rect.unit (s := S6144x512) ![j * 256 + v * 16, n * 128] S16x128.size (inbT _ _ (by omega) (by omega)))
      (strip lo hi t sc v hv) Finset.univ
      (View.stores_vmem h_S16x128 (harg7.storeExact_slice rfl _ (packT _ _ (by omega) (by omega) (by omega))) (fun _ => rfl)) (.inl rfl)) fun _ => k

/-- Decode block `(j, n)`. -/
def mmBlock (lo hi : IVec S8x128 32) (j n : ℕ) (hj : j < 24) (hn : n < 4) (k : PGm F) : PGm F :=
  Prog.op (.load arg4 (Rect.unit (s := S512x3072) ![n * 128, j * 128] S128x128.size (inbC _ _ (by omega) (by omega))).toLoadRect (View.loadsAt_vmem h_S128x128))
    fun (b : Vec F S128x128 .i8) =>
  Prog.op (.load arg5 (Rect.unit (s := S6x512) ![j / 4, n * 128] S1x128.size (inbW _ _ (by omega) (by omega))).toLoadRect (View.loadsAt_vmem h_S1x128))
    fun (s : Vec F S1x128 .bf16) =>
  loopC 16 (fun v hv k => mmStrip arg7 harg7 lo hi (turned b) (shapeCast S1x128 s shapeCasts_S1x128_S1x128) j n hj hn v hv k) k 16 le_rfl

/-- The product, after every block is decoded. -/
def mmTail : PGm F :=
  Prog.op (.load arg2 (Rect.unit (s := S864x6144) ![0, 0] S864x6144.size inb_S864x6144_S864x6144_0_0).toLoadRect (View.loadsAt_vmem h_S864x6144))
    fun (x : Vec F S864x6144 .bf16) =>
  Prog.op (.load arg7 (Rect.unit (s := S6144x512) ![0, 0] S6144x512.size inb_S6144x512_S6144x512_0_0).toLoadRect (View.loadsAt_vmem h_S6144x512))
    fun (w : Vec F S6144x512 .bf16) =>
  Prog.op (.load arg6 (Rect.unit (s := S864x512) ![0, 0] S864x512.size inb_S864x512_S864x512_0_0).toLoadRect (View.loadsAt_vmem h_S864x512))
    fun (_ : Vec F S864x512 .bf16) =>
  Prog.op (.store arg6 (Rect.unit (s := S864x512) ![0, 0] S864x512.size inb_S864x512_S864x512_0_0) (mmOut x w) Finset.univ
      (View.stores_vmem h_S864x512 (harg6.storeExact_slice rfl _ packedbf16_S864x512_S864x512_0_0) (fun _ => rfl)) (.inl rfl)) fun _ =>
  Prog.ret ⟨⟩

/-- The whole body: the table, the 96 blocks, the product. -/
def mmRoll : PGm F :=
  Prog.op (.load arg3 (Rect.unit (s := S16x128) ![0, 0] S8x128.size inb_S16x128_S8x128_0_0).toLoadRect (View.loadsAt_vmem h_S8x128))
    fun (lo : Vec F S8x128 .i32) =>
  Prog.op (.load arg3 (Rect.unit (s := S16x128) ![8, 0] S8x128.size inb_S16x128_S8x128_8_0).toLoadRect (View.loadsAt_vmem h_S8x128))
    fun (hi : Vec F S8x128 .i32) =>
  loopC 96 (fun b hb k => mmBlock arg4 arg5 arg7 harg7 (shapeCast S8x128 lo shapeCasts_S8x128_S8x128) (shapeCast S8x128 hi shapeCasts_S8x128_S8x128)
    (b / 4) (b % 4) (by omega) (by omega) k) (mmTail arg2 arg6 harg6 arg7) 96 le_rfl

end Prog

end Cert.Kernel.Roll

end
-- ==== Proof.KBody.lean ====
/- What the two kernels' bodies leave: the rotated row block, and the block of the product together
   with the decoded weights, each as one function of the element's coordinates. -/
module

public import proofs.«01_k».proof.Proof.KMatRoll
public import Idealize.ShloMosaic.Lib.Pipeline.FrameBody
public import Idealize.ShloMosaic.Lib.Tactic
public import Idealize.ShloMosaic.Lib.ValueIdxCore
public import Idealize.ShloMosaic.Lib.Pipeline.Value

@[expose] public section

set_option maxRecDepth 16384

noncomputable section

namespace Cert.Kernel.Roll

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel

variable {F : FTy → Type} [FloatOps F]
variable [Facts]
open Facts
open Shapes1.Facts₀ Shapes4.Facts₀

local notation "𝕄" => MT nD τ sig Unit (Elt F) ℕ (UR sig nD τ) ℕ

/-! ## One load, one store, one loop -/

section Rules
variable (c : Dev nD) (E : Set ℕ) {s : Shape} {e : EltTy}
  {defs : Defs nD τ sig (Elt F) Λ₀}

/-- A load at the head of a program reads what the memref holds under the rectangle. -/
theorem ld_rule (Q : PUnit → sProp 𝕄) (mr : Memref sig .tc .vmem s e) (r : Rect s) {hl : mr.view.LoadsAt r.toLoadRect}
    {k : (r.shape.Idx → Elt F e) → PGm F} (x : s.Idx → Elt F e) :
    owns (c : Thread nD τ) mr fullShare x
      ⊢ iprop((owns (c : Thread nD τ) mr fullShare x
          -∗ wp frame (wpE defs Variants.none c none) E (k (View.ld x r)) Q)
        -∗ wp frame (wpE defs Variants.none c none) E (Prog.op (.load mr r.toLoadRect hl) k) Q) := by
  unfold owns
  iintro ⟨%f, %hf, H⟩ Hk
  subst hf
  iapply (wp_load (defs := defs) Variants.none (c : Thread nD τ) none E (m := mr) (r := r.toLoadRect) (hl := hl) (k := k)
    (S := mr.view.set) (q := fullShare) (f := f) (View.setOn_subset_set _ _)) $$ [H]
  · iexact H
  iintro H
  iapply Hk
  iexists f; isplitr; · ipureintro; rfl
  iexact H

/-- A store at the head of a program: what the memref holds agrees with the payload under the rectangle
    and is as before elsewhere. -/
theorem st_rule (Q : PUnit → sProp 𝕄) (mr : Memref sig .tc .vmem s e) (r : Rect s) {w : r.shape.Idx → Elt F e}
    {hx : (mr.access r).Stores Finset.univ} {hm : Finset.univ = Finset.univ ∨ ∀ a, r.stride a = 1}
    {k : PUnit → PGm F} (x : s.Idx → Elt F e) (P : sProp 𝕄)
    (h : ∀ y : s.Idx → Elt F e, (∀ i, y (r.emb i) = w i) → (∀ j, j ∉ r.set → y j = x j) →
      (iprop(P ∗ owns (c : Thread nD τ) mr fullShare y) ⊢ wp frame (wpE defs Variants.none c none) E (k ⟨⟩) Q)) :
    iprop(P ∗ owns (c : Thread nD τ) mr fullShare x)
      ⊢ wp frame (wpE defs Variants.none c none) E (Prog.op (.store mr r w Finset.univ hx hm) k) Q := by
  unfold owns at *
  iintro ⟨HP, ⟨%f, %hf, H⟩⟩
  subst hf
  have hh := h (mr.view.read (Elt F) (mr.view.writes (Elt F) f [⟨r, w⟩]))
    (fun i => View.read_writes_cons_emb mr.view f r w [] i) (fun j hj => View.read_writes_cons_miss mr.view f ⟨r, w⟩ [] j hj)
  have hs : (mr.access r).set ⊆ mr.view.set := View.set_slice_subset _ _
  iapply (wp_store_writes₀ (defs := defs) Variants.none (c : Thread nD τ) none E (m := mr) (r := r) (w := w) (hx := hx) (hm := hm)
    (k := k) (S := mr.view.set) (f := f) hs) $$ [H]
  · iexact H
  iintro H
  iapply hh
  isplitl [HP]; · iexact HP
  iexists _; isplitr; · ipureintro; rfl
  iexact H

/-- A loop, by an invariant. -/
theorem loop_rule (Q : PUnit → sProp 𝕄) {n : ℕ} {body : (i : ℕ) → i < n → PGm F → PGm F} {fin : PGm F} (I : ℕ → sProp 𝕄)
    (hstep : ∀ i (hi : i < n) (k : PGm F), (I (i + 1) ⊢ wp frame (wpE defs Variants.none c none) E k Q) →
      (I i ⊢ wp frame (wpE defs Variants.none c none) E (body i hi k) Q))
    (hfin : I n ⊢ wp frame (wpE defs Variants.none c none) E fin Q) (k : ℕ) (hk : k ≤ n) :
    I (n - k) ⊢ wp frame (wpE defs Variants.none c none) E (loopC n body fin k hk) Q := by
  induction k with
  | zero => exact hfin
  | succ k ih =>
    refine hstep (n - (k + 1)) (by omega) _ ?_
    have h := ih (Nat.le_of_succ_le hk)
    rwa [show n - k = n - (k + 1) + 1 by omega] at h

end Rules

/-- After a store of an `h × w` piece at `(a, b)`: an element is under the piece, with the piece's value, or
    outside it, with the value from before. -/
theorem piece_cases {M N a b h w : ℕ} {e : EltTy} {inb : ∀ x, (![a, b] : Fin 2 → Nat) x + (![h, w] : Fin 2 → Nat) x ≤ (![M, N] : Fin 2 → Nat) x}
    {p : (⟨2, ![h, w]⟩ : Shape).Idx → Elt F e} {x y : (⟨2, ![M, N]⟩ : Shape).Idx → Elt F e}
    (h1 : ∀ i, y ((Rect.unit (s := ⟨2, ![M, N]⟩) ![a, b] ![h, w] inb).emb i) = p i)
    (h2 : ∀ j, j ∉ (Rect.unit (s := ⟨2, ![M, N]⟩) ![a, b] ![h, w] inb).set → y j = x j) (z : (⟨2, ![M, N]⟩ : Shape).Idx) :
    (∃ i : (⟨2, ![h, w]⟩ : Shape).Idx, (z 0 : ℕ) = a + (i 0 : ℕ) ∧ (z 1 : ℕ) = b + (i 1 : ℕ) ∧ y z = p i)
      ∨ (¬ ((a ≤ (z 0 : ℕ) ∧ (z 0 : ℕ) < a + h) ∧ (b ≤ (z 1 : ℕ) ∧ (z 1 : ℕ) < b + w)) ∧ y z = x z) := by
  by_cases hz : z ∈ (Rect.unit (s := ⟨2, ![M, N]⟩) ![a, b] ![h, w] inb).set
  · left
    obtain ⟨i, hi⟩ := (Rect.unit (s := ⟨2, ![M, N]⟩) ![a, b] ![h, w] inb).exists_idx_of_mem hz
    have hi' : (Rect.unit (s := ⟨2, ![M, N]⟩) ![a, b] ![h, w] inb).emb i = z := hi
    refine ⟨i, ?_, ?_, by rw [← hi']; exact h1 i⟩
    · rw [← hi', Rect.emb_apply]; show a + 1 * _ = _; rw [Nat.one_mul]
    · rw [← hi', Rect.emb_apply]; show b + 1 * _ = _; rw [Nat.one_mul]
  · refine .inr ⟨fun hc => hz ?_, h2 z hz⟩
    rw [Rect.mem_set_unit]
    intro x; fin_cases x
    · exact hc.1
    · exact hc.2

theorem inbL (a : ℕ) (ha : a + 8 ≤ 16) : ∀ x, (![a, 0] : Fin 2 → Nat) x + S8x128.size x ≤ S16x128.size x := by
  intro x; fin_cases x
  · exact ha
  · exact le_of_eq rfl

/-! ## The rotation -/

/-- The 256-wide piece of columns from `c`, flipped and multiplied. -/
def rotPart (x : Vec F S432x6144 .bf16) (s : Vec F S1x6144 .i8) (c : ℕ) (hc : c + 256 ≤ 6144) : FVec F S432x256 .f32 :=
  rotDot (View.ld (Val := Elt F) (e' := .bf16) x (Rect.unit (s := S432x6144) ![0, c] S432x256.size (inbX c hc)))
    (View.ld (Val := Elt F) (e' := .i8) s (Rect.unit (s := S1x6144) ![0, c] S1x256.size (inbS c hc)))

/-- What the body stores in quarter `q` of the group `j` of 1024 columns. -/
def rotPay (x : Vec F S432x6144 .bf16) (s : Vec F S1x6144 .i8) (j : ℕ) (hj : j < 6) (q : ℕ) : FVec F S432x256 .bf16 :=
  let p0 := rotPart x s (j * 1024) (by omega)
  let p1 := rotPart x s (j * 1024 + 256) (by omega)
  let p2 := rotPart x s (j * 1024 + 512) (by omega)
  let p3 := rotPart x s (j * 1024 + 768) (by omega)
  match q with
  | 0 => rotOut (addf (addf p0 p1) (addf p2 p3))
  | 1 => rotOut (addf (subf p0 p1) (subf p2 p3))
  | 2 => rotOut (subf (addf p0 p1) (addf p2 p3))
  | _ => rotOut (subf (subf p0 p1) (subf p2 p3))

theorem col_lt {n j : ℕ} (h : j < n) (hn : n = 6144) : j / 1024 < 6 := by omega

/-- The block the rotation's body leaves. -/
def rotBody (x : Vec F S432x6144 .bf16) (s : Vec F S1x6144 .i8) : Vec F S432x6144 .bf16 := fun z =>
  rotPay x s ((z 1 : ℕ) / 1024) (col_lt (z 1).isLt rfl) ((z 1 : ℕ) % 1024 / 256)
    (ValueIdx.ix2 (n0 := 432) (n1 := 256) (z 0) ⟨(z 1 : ℕ) % 256, Nat.mod_lt _ (by decide)⟩)

theorem rotBody_eq (x : Vec F S432x6144 .bf16) (s : Vec F S1x6144 .i8) (j : ℕ) (hj : j < 6) (q : ℕ) (hq : q < 4)
    (z : S432x6144.Idx) (i : S432x256.Idx) (h0 : (z 0 : ℕ) = 0 + (i 0 : ℕ)) (h1 : (z 1 : ℕ) = j * 1024 + q * 256 + (i 1 : ℕ)) :
    rotPay x s j hj q i = rotBody x s z := by
  have hi : (i 1 : ℕ) < 256 := (i 1).isLt
  have key : ∀ (j' : ℕ) (hj' : j' < 6) (q' : ℕ) (i' : S432x256.Idx), j' = j → q' = q → i' = i →
      rotPay x s j hj q i = rotPay x s j' hj' q' i' := by
    intro j' hj' q' i' e1 e2 e3; subst e1 e2 e3; rfl
  refine key _ _ _ _ (by omega) (by omega) ?_
  refine (funext fun a => ?_)
  fin_cases a
  · exact Fin.ext (by show (z 0 : ℕ) = (i 0 : ℕ); omega)
  · exact Fin.ext (by show (z 1 : ℕ) % 256 = (i 1 : ℕ); omega)

section RotRule
variable (c : Dev nD) (E : Set ℕ) (defs : Defs nD τ sig (Elt F) Λ₀)
variable (arg1 : Memref sig .tc .vmem S432x6144 .bf16) (harg1 : arg1.IsWhole) (arg2 : Memref sig .tc .vmem S1x6144 .i8) (harg2 : arg2.IsWhole) (arg3 : Memref sig .tc .vmem S432x6144 .bf16) (harg3 : arg3.IsWhole)
variable (x : Vec F S432x6144 .bf16) (s : Vec F S1x6144 .i8)

/-- The body's state with the columns below `n` done. -/
def rotInv (P : sProp 𝕄) (n : ℕ) : sProp 𝕄 :=
  iprop((P ∗ owns (c : Thread nD τ) arg1 fullShare x ∗ owns (c : Thread nD τ) arg2 fullShare s)
    ∗ ∃ d : Vec F S432x6144 .bf16, ⌜∀ z : S432x6144.Idx, (z 1 : ℕ) < n → d z = rotBody x s z⌝ ∗ owns (c : Thread nD τ) arg3 fullShare d)

theorem rotLoad_rule (Q : PUnit → sProp 𝕄) (P : sProp 𝕄) (n b : ℕ) (hb : b + 256 ≤ 6144) (k : FVec F S432x256 .f32 → PGm F)
    (h : rotInv c arg1 arg2 arg3 x s P n ⊢ wp frame (wpE defs Variants.none c none) E (k (rotPart x s b hb)) Q) :
    rotInv c arg1 arg2 arg3 x s P n ⊢ wp frame (wpE defs Variants.none c none) E (rotLoad arg1 arg2 b hb k) Q := by
  unfold rotLoad
  unfold rotInv at *
  iintro ⟨⟨HP, H1, H2⟩, H3⟩
  iapply (ld_rule c E (defs := defs) Q arg1 (Rect.unit (s := S432x6144) ![0, b] S432x256.size (inbX b hb)) x) $$ [H1]
  · iexact H1
  iintro H1
  iapply (ld_rule c E (defs := defs) Q arg2 (Rect.unit (s := S1x6144) ![0, b] S1x256.size (inbS b hb)) s) $$ [H2]
  · iexact H2
  iintro H2
  iapply h
  isplitl [HP H1 H2]
  · isplitl [HP]; · iexact HP
    isplitl [H1]; · iexact H1
    iexact H2
  iexact H3

theorem rotStore_rule (Q : PUnit → sProp 𝕄) (P : sProp 𝕄) (n j q : ℕ) (hj : j < 6) (hq : q < 4) (hn : n = j * 1024 + q * 256) (b : ℕ) (hbn : b = n) (hb : b + 256 ≤ 6144)
    (v : FVec F S432x256 .bf16) (hv : v = rotPay x s j hj q) (k : PGm F)
    (h : rotInv c arg1 arg2 arg3 x s P (n + 256) ⊢ wp frame (wpE defs Variants.none c none) E k Q) :
    rotInv c arg1 arg2 arg3 x s P n ⊢ wp frame (wpE defs Variants.none c none) E (rotStore arg3 harg3 b hb v k) Q := by
  subst hbn
  unfold rotStore
  unfold rotInv at *
  iintro ⟨H, ⟨%d, %hd, H3⟩⟩
  iapply (ld_rule c E (defs := defs) Q arg3 (Rect.unit (s := S432x6144) ![0, b] S432x256.size (inbX b hb)) d) $$ [H3]
  · iexact H3
  iintro H3
  iapply (st_rule c E (defs := defs) Q arg3 (Rect.unit (s := S432x6144) ![0, b] S432x256.size (inbX b hb)) d
    (iprop(P ∗ owns (c : Thread nD τ) arg1 fullShare x ∗ owns (c : Thread nD τ) arg2 fullShare s)) ?_)
  · intro y h1 h2
    refine Entails.trans (sep_mono_right ?_) h
    iintro H
    iexists y
    isplitr
    · ipureintro
      intro z hz
      rcases piece_cases h1 h2 z with ⟨i, e0, e1, e⟩ | ⟨hne, e⟩
      · rw [e, hv]; exact rotBody_eq x s j hj q hq z i e0 (by omega)
      · have h0 : (z 0 : ℕ) < 432 := (z 0).isLt
        rw [e]; exact hd z (by omega)
    iexact H
  isplitl [H]; · iexact H
  iexact H3

theorem rotGroup_rule (Q : PUnit → sProp 𝕄) (P : sProp 𝕄) (j : ℕ) (hj : j < 6) (k : PGm F)
    (h : rotInv c arg1 arg2 arg3 x s P ((j + 1) * 1024) ⊢ wp frame (wpE defs Variants.none c none) E k Q) :
    rotInv c arg1 arg2 arg3 x s P (j * 1024) ⊢ wp frame (wpE defs Variants.none c none) E (rotGroup arg1 arg2 arg3 harg3 j hj k) Q := by
  unfold rotGroup
  apply rotLoad_rule
  apply rotLoad_rule
  apply rotLoad_rule
  apply rotLoad_rule
  refine rotStore_rule c E defs arg1 arg2 arg3 harg3 x s Q P (j * 1024) j 0 hj (by omega) (by omega) _ (by omega) _ _ rfl _ ?_
  refine rotStore_rule c E defs arg1 arg2 arg3 harg3 x s Q P (j * 1024 + 256) j 1 hj (by omega) (by omega) _ (by omega) _ _ rfl _ ?_
  refine rotStore_rule c E defs arg1 arg2 arg3 harg3 x s Q P (j * 1024 + 256 + 256) j 2 hj (by omega) (by omega) _ (by omega) _ _ rfl _ ?_
  refine rotStore_rule c E defs arg1 arg2 arg3 harg3 x s Q P (j * 1024 + 256 + 256 + 256) j 3 hj (by omega) (by omega) _ (by omega) _ _ rfl _ ?_
  rwa [show j * 1024 + 256 + 256 + 256 + 256 = (j + 1) * 1024 by omega]

/-- The rotation's body, on whole memrefs: the output's memref ends at `rotBody` of the inputs. -/
theorem rot_triple (K : PUnit → sProp 𝕄) (i : grid0.Coords) :
    iprop(owns (c : Thread nD τ) arg1 fullShare x ∗ owns (c : Thread nD τ) arg2 fullShare s ∗ (∃ d, owns (c : Thread nD τ) arg3 fullShare d)
        ∗ (iprop(owns (c : Thread nD τ) arg1 fullShare x ∗ owns (c : Thread nD τ) arg2 fullShare s ∗ owns (c : Thread nD τ) arg3 fullShare (rotBody x s)) -∗ K ⟨⟩))
      ⊢ wp frame (wpE defs Variants.none c none) E (rotRoll arg1 arg2 arg3 harg3) K := by
  have h := loop_rule c E (defs := defs) K (n := 6) (body := fun j hj k => rotGroup arg1 arg2 arg3 harg3 j hj k) (fin := Prog.ret ⟨⟩)
    (fun j => rotInv c arg1 arg2 arg3 x s
      (iprop(iprop(owns (c : Thread nD τ) arg1 fullShare x ∗ owns (c : Thread nD τ) arg2 fullShare s ∗ owns (c : Thread nD τ) arg3 fullShare (rotBody x s)) -∗ K ⟨⟩)) (j * 1024))
    (fun j hj k hk => rotGroup_rule c E defs arg1 arg2 arg3 harg3 x s K _ j hj k hk)
    (by
      unfold rotInv
      iintro ⟨⟨HK, H1, H2⟩, ⟨%d, %hd, H3⟩⟩
      have e : d = rotBody x s := funext fun z => hd z (by have : (z 1 : ℕ) < 6144 := (z 1).isLt; omega)
      subst e
      sl_step
      iapply HK
      isplitl [H1]; · iexact H1
      isplitl [H2]; · iexact H2
      iexact H3) 6 le_rfl
  refine BIBase.Entails.trans ?_ h
  unfold rotInv
  iintro ⟨H1, H2, ⟨%d, H3⟩, HK⟩
  isplitl [HK H1 H2]
  · isplitl [HK]; · iexact HK
    isplitl [H1]; · iexact H1
    iexact H2
  iexists d
  isplitr
  · ipureintro; intro z hz; omega
  iexact H3

end RotRule

/-! ## The weights and the product -/

/-- The half table from row `r`. -/
def lutHalf (t : Vec F S16x128 .i32) (r : ℕ) (hr : r + 8 ≤ 16) : IVec S8x128 32 :=
  shapeCast S8x128 (View.ld (Val := Elt F) (e' := .i32) t (Rect.unit (s := S16x128) ![r, 0] S8x128.size (inbL r hr))) shapeCasts_S8x128_S8x128

/-- Block `(j, n)` of the codes, turned. -/
def codeBlk (q : Vec F S512x3072 .i8) (j n : ℕ) (hj : j < 24) (hn : n < 4) : IVec S128x128 32 :=
  turned (View.ld (Val := Elt F) (e' := .i8) q (Rect.unit (s := S512x3072) ![n * 128, j * 128] S128x128.size (inbC _ _ (by omega) (by omega))))

/-- Block `(j, n)`'s row of scales. -/
def scaleRow (a : Vec F S6x512 .bf16) (j n : ℕ) (hj : j < 24) (hn : n < 4) : FVec F S1x128 .bf16 :=
  shapeCast S1x128 (View.ld (Val := Elt F) (e' := .bf16) a (Rect.unit (s := S6x512) ![j / 4, n * 128] S1x128.size (inbW _ _ (by omega) (by omega)))) shapeCasts_S1x128_S1x128

/-- What the body stores in strip `v` of block `(j, n)`. -/
def wPay (t : Vec F S16x128 .i32) (q : Vec F S512x3072 .i8) (a : Vec F S6x512 .bf16) (j n : ℕ) (hj : j < 24) (hn : n < 4) (v : ℕ) (hv : v < 16) :
    FVec F S16x128 .bf16 :=
  strip (lutHalf t 0 (by omega)) (lutHalf t 8 (by omega)) (codeBlk q j n hj hn) (scaleRow a j n hj hn) v hv

theorem row_lt {n j : ℕ} (h : j < n) (hn : n = 6144) : j / 256 < 24 := by omega
theorem lane_lt {n j : ℕ} (h : j < n) (hn : n = 512) : j / 128 < 4 := by omega

/-- The decoded weights the body leaves in its scratch. -/
def wBody (t : Vec F S16x128 .i32) (q : Vec F S512x3072 .i8) (a : Vec F S6x512 .bf16) : Vec F S6144x512 .bf16 := fun z =>
  wPay t q a ((z 0 : ℕ) / 256) ((z 1 : ℕ) / 128) (row_lt (z 0).isLt rfl) (lane_lt (z 1).isLt rfl) ((z 0 : ℕ) % 256 / 16) (by omega)
    (ValueIdx.ix2 (n0 := 16) (n1 := 128) ⟨(z 0 : ℕ) % 16, Nat.mod_lt _ (by decide)⟩ ⟨(z 1 : ℕ) % 128, Nat.mod_lt _ (by decide)⟩)

theorem wBody_eq (t : Vec F S16x128 .i32) (q : Vec F S512x3072 .i8) (a : Vec F S6x512 .bf16) (j n : ℕ) (hj : j < 24) (hn : n < 4) (v : ℕ) (hv : v < 16)
    (z : S6144x512.Idx) (i : S16x128.Idx) (h0 : (z 0 : ℕ) = j * 256 + v * 16 + (i 0 : ℕ)) (h1 : (z 1 : ℕ) = n * 128 + (i 1 : ℕ)) :
    wPay t q a j n hj hn v hv i = wBody t q a z := by
  have hi0 : (i 0 : ℕ) < 16 := (i 0).isLt
  have hi1 : (i 1 : ℕ) < 128 := (i 1).isLt
  have key : ∀ (j' n' : ℕ) (hj' : j' < 24) (hn' : n' < 4) (v' : ℕ) (hv' : v' < 16) (i' : S16x128.Idx), j' = j → n' = n → v' = v → i' = i →
      wPay t q a j n hj hn v hv i = wPay t q a j' n' hj' hn' v' hv' i' := by
    intro j' n' hj' hn' v' hv' i' e1 e2 e3 e4; subst e1 e2 e3 e4; rfl
  refine key _ _ _ _ _ _ _ (by omega) (by omega) (by omega) ?_
  refine (funext fun b => ?_)
  fin_cases b
  · exact Fin.ext (by show (z 0 : ℕ) % 16 = (i 0 : ℕ); omega)
  · exact Fin.ext (by show (z 1 : ℕ) % 128 = (i 1 : ℕ); omega)

/-- The block of the product the body leaves. -/
def mmBody (x : Vec F S864x6144 .bf16) (t : Vec F S16x128 .i32) (q : Vec F S512x3072 .i8) (a : Vec F S6x512 .bf16) : Vec F S864x512 .bf16 :=
  mmOut x (wBody t q a)

section MatRule
variable (c : Dev nD) (E : Set ℕ) (defs : Defs nD τ sig (Elt F) Λ₀)
variable (arg2 : Memref sig .tc .vmem S864x6144 .bf16) (harg2 : arg2.IsWhole) (arg3 : Memref sig .tc .vmem S16x128 .i32) (harg3 : arg3.IsWhole) (arg4 : Memref sig .tc .vmem S512x3072 .i8) (harg4 : arg4.IsWhole) (arg5 : Memref sig .tc .vmem S6x512 .bf16) (harg5 : arg5.IsWhole) (arg6 : Memref sig .tc .vmem S864x512 .bf16) (harg6 : arg6.IsWhole) (arg7 : Memref sig .tc .vmem S6144x512 .bf16) (harg7 : arg7.IsWhole)
variable (x : Vec F S864x6144 .bf16) (t : Vec F S16x128 .i32) (q : Vec F S512x3072 .i8) (a : Vec F S6x512 .bf16)

/-- The body's state with the first `b` blocks, and `v` strips of the next, decoded. -/
def mmInv (P : sProp 𝕄) (b v : ℕ) : sProp 𝕄 :=
  iprop((P ∗ owns (c : Thread nD τ) arg4 fullShare q ∗ owns (c : Thread nD τ) arg5 fullShare a)
    ∗ ∃ d : Vec F S6144x512 .bf16, ⌜∀ z : S6144x512.Idx,
        ((z 0 : ℕ) / 256 * 4 + (z 1 : ℕ) / 128 < b ∨ ((z 0 : ℕ) / 256 * 4 + (z 1 : ℕ) / 128 = b ∧ (z 0 : ℕ) % 256 / 16 < v)) → d z = wBody t q a z⌝
      ∗ owns (c : Thread nD τ) arg7 fullShare d)

theorem mmStrip_rule (Q : PUnit → sProp 𝕄) (P : sProp 𝕄) (j n : ℕ) (hj : j < 24) (hn : n < 4) (v : ℕ) (hv : v < 16) (k : PGm F)
    (h : mmInv c arg4 arg5 arg7 t q a P (j * 4 + n) (v + 1) ⊢ wp frame (wpE defs Variants.none c none) E k Q) :
    mmInv c arg4 arg5 arg7 t q a P (j * 4 + n) v ⊢ wp frame (wpE defs Variants.none c none) E
      (mmStrip arg7 harg7 (lutHalf t 0 (by omega)) (lutHalf t 8 (by omega)) (codeBlk q j n hj hn) (scaleRow a j n hj hn) j n hj hn v hv k) Q := by
  unfold mmStrip
  unfold mmInv at *
  iintro ⟨H, ⟨%d, %hd, H3⟩⟩
  iapply (ld_rule c E (defs := defs) Q arg7 (Rect.unit (s := S6144x512) ![j * 256 + v * 16, n * 128] S16x128.size (inbT _ _ (by omega) (by omega))) d) $$ [H3]
  · iexact H3
  iintro H3
  iapply (st_rule c E (defs := defs) Q arg7 (Rect.unit (s := S6144x512) ![j * 256 + v * 16, n * 128] S16x128.size (inbT _ _ (by omega) (by omega))) d
    (iprop(P ∗ owns (c : Thread nD τ) arg4 fullShare q ∗ owns (c : Thread nD τ) arg5 fullShare a)) ?_)
  · intro y h1 h2
    refine Entails.trans (sep_mono_right ?_) h
    iintro H
    iexists y
    isplitr
    · ipureintro
      intro z hz
      have hz0 : (z 0 : ℕ) < 6144 := (z 0).isLt
      have hz1 : (z 1 : ℕ) < 512 := (z 1).isLt
      rcases piece_cases h1 h2 z with ⟨i, e0, e1, e⟩ | ⟨hne, e⟩
      · rw [e]; exact wBody_eq t q a j n hj hn v hv z i e0 e1
      · rw [e]; exact hd z (by omega)
    iexact H
  isplitl [H]; · iexact H
  iexact H3

theorem mmBlock_rule (Q : PUnit → sProp 𝕄) (P : sProp 𝕄) (j n : ℕ) (hj : j < 24) (hn : n < 4) (k : PGm F)
    (h : mmInv c arg4 arg5 arg7 t q a P (j * 4 + n + 1) 0 ⊢ wp frame (wpE defs Variants.none c none) E k Q) :
    mmInv c arg4 arg5 arg7 t q a P (j * 4 + n) 0 ⊢ wp frame (wpE defs Variants.none c none) E
      (mmBlock arg4 arg5 arg7 harg7 (lutHalf t 0 (by omega)) (lutHalf t 8 (by omega)) j n hj hn k) Q := by
  have hl := loop_rule c E (defs := defs) Q (n := 16)
    (body := fun v hv k => mmStrip arg7 harg7 (lutHalf t 0 (by omega)) (lutHalf t 8 (by omega)) (codeBlk q j n hj hn) (scaleRow a j n hj hn) j n hj hn v hv k) (fin := k)
    (fun v => mmInv c arg4 arg5 arg7 t q a P (j * 4 + n) v)
    (fun v hv k hk => mmStrip_rule c E defs arg4 arg5 arg7 harg7 t q a Q P j n hj hn v hv k hk)
    (by
      refine BIBase.Entails.trans ?_ h
      unfold mmInv
      iintro ⟨H, ⟨%d, %hd, H3⟩⟩
      isplitl [H]; · iexact H
      iexists d
      isplitr
      · ipureintro
        intro z hz
        exact hd z (by omega)
      iexact H3) 16 le_rfl
  unfold mmBlock
  have hl' : mmInv c arg4 arg5 arg7 t q a P (j * 4 + n) 0 ⊢ _ := hl
  unfold mmInv at hl' ⊢
  iintro ⟨⟨HP, H1, H2⟩, H3⟩
  iapply (ld_rule c E (defs := defs) Q arg4 (Rect.unit (s := S512x3072) ![n * 128, j * 128] S128x128.size (inbC _ _ (by omega) (by omega))) q) $$ [H1]
  · iexact H1
  iintro H1
  iapply (ld_rule c E (defs := defs) Q arg5 (Rect.unit (s := S6x512) ![j / 4, n * 128] S1x128.size (inbW _ _ (by omega) (by omega))) a) $$ [H2]
  · iexact H2
  iintro H2
  iapply hl'
  isplitl [HP H1 H2]
  · isplitl [HP]; · iexact HP
    isplitl [H1]; · iexact H1
    iexact H2
  iexact H3

/-- The matmul's body, on whole memrefs: the output's memref ends at `mmBody` of the inputs. -/
theorem mm_triple (K : PUnit → sProp 𝕄) :
    iprop(owns (c : Thread nD τ) arg2 fullShare x ∗ owns (c : Thread nD τ) arg3 fullShare t ∗ owns (c : Thread nD τ) arg4 fullShare q ∗ owns (c : Thread nD τ) arg5 fullShare a
        ∗ (∃ d, owns (c : Thread nD τ) arg6 fullShare d) ∗ (∃ d, owns (c : Thread nD τ) arg7 fullShare d)
        ∗ (iprop(owns (c : Thread nD τ) arg2 fullShare x ∗ owns (c : Thread nD τ) arg3 fullShare t ∗ owns (c : Thread nD τ) arg4 fullShare q ∗ owns (c : Thread nD τ) arg5 fullShare a
            ∗ owns (c : Thread nD τ) arg6 fullShare (mmBody x t q a) ∗ (∃ d, owns (c : Thread nD τ) arg7 fullShare d)) -∗ K ⟨⟩))
      ⊢ wp frame (wpE defs Variants.none c none) E (mmRoll arg2 arg3 arg4 arg5 arg6 harg6 arg7 harg7) K := by
  have hl := loop_rule c E (defs := defs) K (n := 96)
    (body := fun b hb k => mmBlock arg4 arg5 arg7 harg7 (lutHalf t 0 (by omega)) (lutHalf t 8 (by omega)) (b / 4) (b % 4) (by omega) (by omega) k)
    (fin := mmTail arg2 arg6 harg6 arg7)
    (fun b => mmInv c arg4 arg5 arg7 t q a
      (iprop(owns (c : Thread nD τ) arg2 fullShare x ∗ owns (c : Thread nD τ) arg3 fullShare t ∗ (∃ d, owns (c : Thread nD τ) arg6 fullShare d)
        ∗ (iprop(owns (c : Thread nD τ) arg2 fullShare x ∗ owns (c : Thread nD τ) arg3 fullShare t ∗ owns (c : Thread nD τ) arg4 fullShare q ∗ owns (c : Thread nD τ) arg5 fullShare a
            ∗ owns (c : Thread nD τ) arg6 fullShare (mmBody x t q a) ∗ (∃ d, owns (c : Thread nD τ) arg7 fullShare d)) -∗ K ⟨⟩))) b 0)
    (fun b hb k hk => by
      have h := mmBlock_rule c E defs arg4 arg5 arg7 harg7 t q a K _ (b / 4) (b % 4) (by omega) (by omega) k (by
        rw [show b / 4 * 4 + b % 4 + 1 = b + 1 by omega]; exact hk)
      rwa [show b / 4 * 4 + b % 4 = b by omega] at h)
    (by
      unfold mmInv mmTail
      iintro ⟨⟨⟨H0, H1, ⟨%o, H4⟩, HK⟩, H2, H3⟩, ⟨%d, %hd, H5⟩⟩
      have e : d = wBody t q a := funext fun z => hd z (by
        have : (z 0 : ℕ) < 6144 := (z 0).isLt
        have : (z 1 : ℕ) < 512 := (z 1).isLt
        omega)
      subst e
      iapply (ld_rule c E (defs := defs) K arg2 (Rect.unit (s := S864x6144) ![0, 0] S864x6144.size inb_S864x6144_S864x6144_0_0) x) $$ [H0]
      · iexact H0
      iintro H0
      iapply (ld_rule c E (defs := defs) K arg7 (Rect.unit (s := S6144x512) ![0, 0] S6144x512.size inb_S6144x512_S6144x512_0_0) (wBody t q a)) $$ [H5]
      · iexact H5
      iintro H5
      iapply (ld_rule c E (defs := defs) K arg6 (Rect.unit (s := S864x512) ![0, 0] S864x512.size inb_S864x512_S864x512_0_0) o) $$ [H4]
      · iexact H4
      iintro H4
      have hz : (![0, 0] : Fin 2 → ℕ) = fun _ => 0 := funext fun b => by fin_cases b <;> rfl
      rw [View.ld_unit_zero (S := S864x6144) hz, View.ld_unit_zero (S := S6144x512) hz]
      iapply (st_rule c E (defs := defs) K arg6 (Rect.unit (s := S864x512) ![0, 0] S864x512.size inb_S864x512_S864x512_0_0) o
        (iprop(owns (c : Thread nD τ) arg2 fullShare x ∗ owns (c : Thread nD τ) arg3 fullShare t ∗ owns (c : Thread nD τ) arg4 fullShare q ∗ owns (c : Thread nD τ) arg5 fullShare a
          ∗ owns (c : Thread nD τ) arg7 fullShare (wBody t q a)
          ∗ (iprop(owns (c : Thread nD τ) arg2 fullShare x ∗ owns (c : Thread nD τ) arg3 fullShare t ∗ owns (c : Thread nD τ) arg4 fullShare q ∗ owns (c : Thread nD τ) arg5 fullShare a
            ∗ owns (c : Thread nD τ) arg6 fullShare (mmBody x t q a) ∗ (∃ d, owns (c : Thread nD τ) arg7 fullShare d)) -∗ K ⟨⟩))) ?_)
      · intro y h1 h2
        have e : y = mmBody x t q a := funext fun z => by
          rcases piece_cases h1 h2 z with ⟨i, e0, e1, e⟩ | ⟨hne, e⟩
          · rw [e]
            have : i = z := funext fun b => by
              fin_cases b
              · exact Fin.ext (by show (i 0 : ℕ) = (z 0 : ℕ); omega)
              · exact Fin.ext (by show (i 1 : ℕ) = (z 1 : ℕ); omega)
            rw [this]; rfl
          · have h0 : (z 0 : ℕ) < 864 := (z 0).isLt
            have h1 : (z 1 : ℕ) < 512 := (z 1).isLt
            exact absurd ⟨⟨Nat.zero_le _, by omega⟩, ⟨Nat.zero_le _, by omega⟩⟩ hne
        subst e
        iintro ⟨⟨H0, H1, H2, H3, H5, HK⟩, H4⟩
        sl_step
        iapply HK
        isplitl [H0]; · iexact H0
        isplitl [H1]; · iexact H1
        isplitl [H2]; · iexact H2
        isplitl [H3]; · iexact H3
        isplitl [H4]; · iexact H4
        iexists _; iexact H5
      isplitr [H4]
      · isplitl [H0]; · iexact H0
        isplitl [H1]; · iexact H1
        isplitl [H2]; · iexact H2
        isplitl [H3]; · iexact H3
        isplitl [H5]; · iexact H5
        iexact HK
      iexact H4) 96 le_rfl
  have hl' : iprop(owns (c : Thread nD τ) arg2 fullShare x ∗ owns (c : Thread nD τ) arg3 fullShare t ∗ owns (c : Thread nD τ) arg4 fullShare q ∗ owns (c : Thread nD τ) arg5 fullShare a
        ∗ (∃ d, owns (c : Thread nD τ) arg6 fullShare d) ∗ (∃ d, owns (c : Thread nD τ) arg7 fullShare d)
        ∗ (iprop(owns (c : Thread nD τ) arg2 fullShare x ∗ owns (c : Thread nD τ) arg3 fullShare t ∗ owns (c : Thread nD τ) arg4 fullShare q ∗ owns (c : Thread nD τ) arg5 fullShare a
            ∗ owns (c : Thread nD τ) arg6 fullShare (mmBody x t q a) ∗ (∃ d, owns (c : Thread nD τ) arg7 fullShare d)) -∗ K ⟨⟩)) ⊢ _ := BIBase.Entails.trans (by
    unfold mmInv
    iintro ⟨H0, H1, H2, H3, H4, ⟨%d, H5⟩, HK⟩
    isplitr [H5]
    · isplitl [H0 H1 H4 HK]
      · isplitl [H0]; · iexact H0
        isplitl [H1]; · iexact H1
        isplitl [H4]; · iexact H4
        iexact HK
      isplitl [H2]; · iexact H2
      iexact H3
    iexists d
    isplitr
    · ipureintro; intro z hz; omega
    iexact H5) hl
  unfold lutHalf at hl'
  unfold mmRoll
  iintro ⟨H0, H1, H2, H3, H4, H5, HK⟩
  iapply (ld_rule c E (defs := defs) K arg3 (Rect.unit (s := S16x128) ![0, 0] S8x128.size inb_S16x128_S8x128_0_0) t) $$ [H1]
  · iexact H1
  iintro H1
  iapply (ld_rule c E (defs := defs) K arg3 (Rect.unit (s := S16x128) ![8, 0] S8x128.size inb_S16x128_S8x128_8_0) t) $$ [H1]
  · iexact H1
  iintro H1
  iapply hl'
  isplitl [H0]; · iexact H0
  isplitl [H1]; · iexact H1
  isplitl [H2]; · iexact H2
  isplitl [H3]; · iexact H3
  isplitl [H4]; · iexact H4
  isplitl [H5]; · iexact H5
  iexact HK

end MatRule

end Cert.Kernel.Roll

end
-- ==== Proof.KMatEq.lean ====
/- The printed body of the matmul kernel is the loop of `MatRoll`. -/
module

public import proofs.«01_k».proof.Kernel
public import proofs.«01_k».proof.Proof.KMatRoll

@[expose] public section

set_option maxRecDepth 16384

noncomputable section

namespace Cert.Kernel.Roll

open Idealize.ShloMosaic Idealize.SL.Sem
open Cert.Kernel

variable {F : FTy → Type} [FloatOps F]
variable [Facts]
open Facts
open Shapes1.Facts₀ Shapes4.Facts₀

section Prog
variable (arg2 : Memref sig .tc .vmem S864x6144 .bf16) (harg2 : arg2.IsWhole) (arg3 : Memref sig .tc .vmem S16x128 .i32) (harg3 : arg3.IsWhole) (arg4 : Memref sig .tc .vmem S512x3072 .i8) (harg4 : arg4.IsWhole) (arg5 : Memref sig .tc .vmem S6x512 .bf16) (harg5 : arg5.IsWhole) (arg6 : Memref sig .tc .vmem S864x512 .bf16) (harg6 : arg6.IsWhole) (arg7 : Memref sig .tc .vmem S6144x512 .bf16) (harg7 : arg7.IsWhole)

theorem mm_eq_roll (i : grid1.Coords) :
    cc1__matmul_kernel (F := F) i arg2 harg2 arg3 harg3 arg4 harg4 arg5 harg5 arg6 harg6 arg7 harg7 = mmRoll arg2 arg3 arg4 arg5 arg6 harg6 arg7 harg7 := by
  chain_rfl

end Prog

end Cert.Kernel.Roll

end
-- ==== Proof.RunK.lean ====
/- The run of `proofs.«01_k».proof.Kernel` from the launch to the return: the two kernels over their grids, the host
   operations around them, and what every buffer holds at the end. -/
module

public import proofs.«01_k».proof.Proof.Gen.Kernel.Launch
public import proofs.«01_k».proof.Proof.Gen.Kernel.Points
public import proofs.«01_k».proof.Proof.KBody
public import proofs.«01_k».proof.Proof.KMatEq
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Kernel.Roll
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__rotate_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The rotation's body on whole staging memrefs. -/
theorem sound_kernel0 (c : Dev nD) (E : Set ℕ) (i : grid0.Coords) (arg1 : Memref sig .tc .vmem S432x6144 .bf16) (harg1 : arg1.IsWhole) (arg2 : Memref sig .tc .vmem S1x6144 .i8) (harg2 : arg2.IsWhole) (arg3 : Memref sig .tc .vmem S432x6144 .bf16) (harg3 : arg3.IsWhole)
    (x0 : Vec F S432x6144 .bf16) (x1 : Vec F S1x6144 .i8) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (rotBody x0 x1)) -∗ K ⟨⟩))
      ⊢ wp frame (wpE (defs₀ (F := F)) Variants.none c none) E (cc0__rotate_kernel i arg1 harg1 arg2 harg2 arg3 harg3) K := by
  rw [rot_eq_roll]
  exact rot_triple c E defs₀ arg1 arg2 arg3 harg3 x0 x1 K i

/-! ## The pipeline's proof data -/

/-- The proof data of pipeline 0 on core `c`: the arrays as the region finds them (`V`); after the body at
    point `t` each input's buffer at its block and each output's at its closed form of the input blocks; the invariant the
    class's; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => rotBody (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = rotBody (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1__matmul_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- Each window's current staging memref at point `t`, spelled as the pipeline passes it (`bodyAt1`), and its wholeness. -/
abbrev ms1_0 (t : Fin cfg1.N) : Memref sig .tc .vmem S864x6144 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16x128 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x3072 .i8 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S6x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S864x512 .bf16 := win1_4.stage (cfg1.slots t 4)
abbrev hs1_4 (t : Fin cfg1.N) : (ms1_4 t).IsWhole := hstage1_4 ((cfg1.slots t 4).cast nbuf1_4)
/-- The scratch operands: whole scoped buffers of the kernel's own, passed beside the windows. -/
abbrev scM1_0 : Memref sig .tc .vmem S6144x512 .bf16 := Memref.whole cc1_scratch0

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
  unfold Pipeline.ΦA; rw [scopedRest1_eq]; simp only [scM1_0, owns_whole]; try rfl

/-- The matmul's body on whole staging memrefs and its scratch. -/
theorem sound_kernel1 (c : Dev nD) (E : Set ℕ) (i : grid1.Coords) (arg2 : Memref sig .tc .vmem S864x6144 .bf16) (harg2 : arg2.IsWhole) (arg3 : Memref sig .tc .vmem S16x128 .i32) (harg3 : arg3.IsWhole) (arg4 : Memref sig .tc .vmem S512x3072 .i8) (harg4 : arg4.IsWhole) (arg5 : Memref sig .tc .vmem S6x512 .bf16) (harg5 : arg5.IsWhole) (arg6 : Memref sig .tc .vmem S864x512 .bf16) (harg6 : arg6.IsWhole) (arg7 : Memref sig .tc .vmem S6144x512 .bf16) (harg7 : arg7.IsWhole)
    (x0 : Vec F S864x6144 .bf16) (x1 : Vec F S16x128 .i32) (x2 : Vec F S512x3072 .i8) (x3 : Vec F S6x512 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (mmBody x0 x1 x2 x3) ∗ (∃ d, owns (c : Thread nD τ) arg7 fullShare d)) -∗ K ⟨⟩))
      ⊢ wp frame (wpE (defs₀ (F := F)) Variants.none c none) E (cc1__matmul_kernel i arg2 harg2 arg3 harg3 arg4 harg4 arg5 harg5 arg6 harg6 arg7 harg7) K := by
  rw [mm_eq_roll]
  exact mm_triple c E defs₀ arg2 arg3 arg4 arg5 arg6 harg6 arg7 harg7 x0 x1 x2 x3 K

/-! ## The pipeline's proof data -/

/-- The proof data of pipeline 1 on core `c`: the arrays as the region finds them (`V`); after the body at
    point `t` each input's buffer at its block and the outputs' at their closed form; the invariant the class's
   ; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => mmBody (iblk1 V c 0 t) (iblk1 V c 1 t) (iblk1 V c 2 t) (iblk1 V c 3 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = mmBody (iblk1 V c 0 t) (iblk1 V c 1 t) (iblk1 V c 2 t) (iblk1 V c 3 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  rw [show (dat1 V c).Φ t.castSucc = Pipeline.ΦA spec1 c from rfl, PhiA1_eq]
  iintro ⟨⟨⟨HR0, HR1, HR2, HR3, HR4, HS0⟩, Hg⟩, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, H4, HS0⟩
  isplitl [HR0 HR1 HR2 HR3 HR4 HS0 Hg]
  · isplitl [HR0 HR1 HR2 HR3 HR4 HS0]
    · isplitl [HR0]
      · iexact HR0
      isplitl [HR1]
      · iexact HR1
      isplitl [HR2]
      · iexact HR2
      isplitl [HR3]
      · iexact HR3
      isplitl [HR4]
      · iexact HR4
      iexact HS0
    iexact Hg
  isplitl [Ho]; · iexact Ho
  isplitl [H0]; · iexact H0
  isplitl [H1]; · iexact H1
  isplitl [H2]; · iexact H2
  isplitl [H3]; · iexact H3
  iexact H4

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return -/

/-- @main's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v3, main_v4, main_c, main_v5, main_v6, main_c_0, main_v7, main_v8, main_c_1, main_v9, main_v10, main_v11, main_v12, main_v13, main_c_2, main_v14, main_v15, main_c_3, main_v16, main_v17, main_c_4, main_v18, main_v19, main_v20, main_v21, main_v22, main_c_5, main_v23, main_v24, main_v25, main_v26, main_v27, main_v28, main_v29, main_v30, main_v31]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v33, main_v34]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- Every weakly fair execution of @main terminates without a fault, and at the end every buffer of the
    TensorCore that is not scoped holds what the last boundary's contents say, with every counter at zero. -/
theorem run_all : θ_run defs (onTc (τ := τ) (main (F := F))) ⟨m, fun _ => 0, ρ⟩ (fun r => (∀ c : Dev nD, ∀ b ∈ Pipeline.ucRefs τ sig,
      r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c),
       (h.1 c _ (mem_uc main_arg4 (by decide))).trans (W5_main_arg4 m ρ c)⟩, h.2⟩) (run_all m ρ)

end Cert.Kernel.Run

end
-- ==== Proof.RefFrame.lean ====
/- The reference's frame: it ends with its arguments as launched, and it declares no semaphore. -/
module

public import proofs.«01_k».proof.Proof.Gen.ReferenceIdeal.Run
public import Idealize.ShloMosaic.Lib.Quiescent

@[expose] public section

noncomputable section

namespace Cert.RefFrame

open Cert.ReferenceIdeal Cert.ReferenceIdeal.Gen Idealize.ShloMosaic Idealize.ShloMosaic.TcCoe Idealize.SL.Sem

variable {F : FTy → Type} [FloatOps F]

/-- The reference runs, its arguments end as launched, every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2.2, sem_eq_zero_of_no_sems (by decide) r.2⟩) (Value.run m ρ)

end Cert.RefFrame

end
-- ==== Proof.HostVal.lean ====
/- What the host operations of the kernel's program leave, element by element. -/
module

public import proofs.«01_k».proof.Proof.RunI
public import Idealize.ShloMosaic.Lib.Pointwise
public import Idealize.ShloMosaic.Lib.StableHlo.ReadAt
public import Idealize.ShloMosaic.Lib.Routing.OpsSet

@[expose] public section

set_option maxRecDepth 16384

noncomputable section

namespace Cert.KernelIdeal.Val

open Idealize.ShloMosaic Idealize.ShloMosaic.TcCoe
open Cert.KernelIdeal Cert.KernelIdeal.Gen

/-- The table word of a byte: the code point of its low four bits in the low half, of its high four bits in the high half. -/
def pair (b : S16.Idx → BitVec 16) (u : Fin 256) : BitVec 32 :=
  (b (ix1 (n0 := 16) ⟨u.val % 16, Nat.mod_lt _ (by decide)⟩)).setWidth 32 ||| (b (ix1 (n0 := 16) ⟨u.val / 16, by omega⟩)).setWidth 32 <<< 16

/-- The codebook's bits, looked up at a column of words each below sixteen. -/
theorem take_at (x : IVec S16 32) (idx : IVec S256x1 32) (u : Fin 256) (k : Fin 16) (h : idx (ix2 (n0 := 256) (n1 := 1) u 0) = BitVec.ofNat 32 k.val) :
    Host.gather gather_S16_S256x1_S256_n_0_n_n_0_1_1 x idx (ix1 (n0 := 256) u) = x (ix1 (n0 := 16) k) :=
  Routing.gather_take1 (N := 16) (n := 256) gather_S16_S256x1_S256_n_0_n_n_0_1_1 rfl rfl rfl rfl x idx u k h (by decide)

theorem table_word (x : IVec S16 32) (i1 i2 : IVec S256x1 32) (c : IVec S256 32) (u : S256.Idx) :
    id (ori (Host.gather gather_S16_S256x1_S256_n_0_n_n_0_1_1 x i1) (Host.shli (Host.gather gather_S16_S256x1_S256_n_0_n_n_0_1_1 x i2) c)) u
      = IntOp.ori (Host.gather gather_S16_S256x1_S256_n_0_n_n_0_1_1 x i1 u) (IntOp.shli .host (Host.gather gather_S16_S256x1_S256_n_0_n_n_0_1_1 x i2 u) (c u)) := rfl

theorem low_word : ∀ u : Fin 256,
    Scalar.select (IntOp.cmpi .slt (IntOp.andi (BitVec.ofNat 32 u.val) 15#32) 0#32) (IntOp.addi (IntOp.andi (BitVec.ofNat 32 u.val) 15#32) 16#32)
      (IntOp.andi (BitVec.ofNat 32 u.val) 15#32) = BitVec.ofNat 32 (u.val % 16) := by decide +kernel

theorem high_word : ∀ u : Fin 256,
    Scalar.select (IntOp.cmpi .slt (IntOp.shrsi .host (BitVec.ofNat 32 u.val) 4#32) 0#32) (IntOp.addi (IntOp.shrsi .host (BitVec.ofNat 32 u.val) 4#32) 16#32)
      (IntOp.shrsi .host (BitVec.ofNat 32 u.val) 4#32) = BitVec.ofNat 32 (u.val / 16) := by decide +kernel

variable (V : Valuation τ sig (Elt Ideal))

theorem v0_apply (r : Fin 3456) (k : Fin 6144) :
    StableHlo.after hostOps0 V (Proc.devRef .tc main_v0) (ix2 (n0 := 3456) (n1 := 6144) r k)
      = V (Proc.devRef .tc main_arg0) (ix3 (n0 := 3) (n1 := 1152) (n2 := 6144) ⟨r.val / 1152, by omega⟩ ⟨r.val % 1152, Nat.mod_lt _ (by decide)⟩ k) := by
  unfold hostOps0
  after_reads_at

theorem v1_apply (k : Fin 6144) :
    StableHlo.after hostOps0 V (Proc.devRef .tc main_v1) (ix2 (n0 := 1) (n1 := 6144) 0 k)
      = V (Proc.devRef .tc main_arg1) (ix1 (n0 := 6144) k) := by
  unfold hostOps0
  after_reads_at

theorem v31_apply (g : Fin 6) (n : Fin 16384) :
    StableHlo.after hostOps1 V (Proc.devRef .tc main_v31) (ix2 (n0 := 6) (n1 := 16384) g n)
      = V (Proc.devRef .tc main_arg4) (ix2 (n0 := 16384) (n1 := 6) n g) := by
  unfold hostOps1
  after_reads_at

theorem v29_apply (r : Fin 16) (l : Fin 128) :
    StableHlo.after hostOps1 V (Proc.devRef .tc main_v29) (ix2 (n0 := 16) (n1 := 128) r l)
      = pair (V (Proc.devRef .tc main_arg2)) ⟨r.val / 8 * 128 + l.val, by omega⟩ := by
  unfold hostOps1
  after_reads_at
  generalize (⟨r.val / 8 * 128 + l.val, by omega⟩ : Fin 256) = u
  unfold pair
  rw [table_word, take_at _ _ u ⟨u.val % 16, Nat.mod_lt _ (by decide)⟩, take_at _ _ u ⟨u.val / 16, by omega⟩]
  · pointwise
    unfold IntOp.ori IntOp.shli
    simp
  · pointwise
    exact high_word u
  · pointwise
    exact low_word u

theorem v33_apply (p : Fin 3) (t : Fin 1152) (n : Fin 16384) :
    StableHlo.after hostOps2 V (Proc.devRef .tc main_v33) (ix3 (n0 := 3) (n1 := 1152) (n2 := 16384) p t n)
      = V (Proc.devRef .tc main_v32) (ix2 (n0 := 3456) (n1 := 16384) ⟨p.val * 1152 + t.val, by omega⟩ n) := by
  unfold hostOps2
  after_reads_at

theorem v34_apply (p : Fin 3) (t : Fin 1152) (k : Fin 6144) :
    StableHlo.after hostOps2 V (Proc.devRef .tc main_v34) (ix3 (n0 := 3) (n1 := 1152) (n2 := 6144) p t k)
      = V (Proc.devRef .tc main_v2) (ix2 (n0 := 3456) (n1 := 6144) ⟨p.val * 1152 + t.val, by omega⟩ k) := by
  unfold hostOps2
  after_reads_at

end Cert.KernelIdeal.Val

end
-- ==== Proof.RotVal.lean ====
/- The rotated row block over the extended reals: each element as a signed sum of four sums of 256. -/
module

public import proofs.«01_k».proof.Proof.Body
public import Idealize.ShloMosaic.Lib.Pointwise

@[expose] public section

set_option maxRecDepth 16384

noncomputable section

namespace Cert.KernelIdeal.Val

open Idealize.ShloMosaic
open Cert.KernelIdeal Cert.KernelIdeal.Roll

variable [Facts]
open Facts
open Shapes1.Facts₀ Shapes4.Facts₀

/-- The sign word of a 32-bit word: one minus twice the parity of its low bits, folded by shifts. -/
def signWord (u : BitVec 32) : BitVec 32 :=
  let v5 := IntOp.xori u (IntOp.shrsi .vector u 8#32)
  let v8 := IntOp.xori v5 (IntOp.shrsi .vector v5 4#32)
  let v11 := IntOp.xori v8 (IntOp.shrsi .vector v8 2#32)
  let v14 := IntOp.xori v11 (IntOp.shrsi .vector v11 1#32)
  IntOp.subi 1#32 (IntOp.muli 2#32 (IntOp.andi v14 1#32))

theorem hmat_apply (i k : Fin 256) : hmat (F := Ideal) (ix2 (n0 := 256) (n1 := 256) i k)
    = (((signWord (BitVec.ofNat 32 i &&& BitVec.ofNat 32 k)).toInt : ℝ) : EReal) := by
  unfold hmat
  pointwise
  rfl

theorem rotDot_apply (x : FVec Ideal S432x256 .bf16) (s : IVec S1x256 8) (r : Fin 432) (k : Fin 256) :
    rotDot (F := Ideal) x s (ix2 (n0 := 432) (n1 := 256) r k)
      = ∑ i : Fin 256, x (ix2 (n0 := 432) (n1 := 256) r i) * (((s (ix2 (n0 := 1) (n1 := 256) 0 i)).toInt : ℝ) : EReal)
          * hmat (F := Ideal) (ix2 (n0 := 256) (n1 := 256) i k) := by
  unfold rotDot
  pointwise
  rfl

/-- The sign word of the population count: the reference's sign matrix at a 32-bit word. -/
def popWord (u : BitVec 32) : BitVec 32 :=
  IntOp.subi 1#32 (IntOp.muli 2#32 (IntOp.andi (IntOp.ctpop u) 1#32))

theorem sign_of_pop : ∀ (b : Fin 4) (u : Fin 256),
    (popWord (BitVec.ofNat 32 (b.val * 256 + u.val))).toInt = (popWord (BitVec.ofNat 32 b.val)).toInt * (signWord (BitVec.ofNat 32 u.val)).toInt := by
  decide +kernel

theorem and_tiles (b q i k : ℕ) (hi : i < 256) (hk : k < 256) : (b * 256 + i) &&& (q * 256 + k) = (b &&& q) * 256 + (i &&& k) := by
  have e : ∀ a c : ℕ, a * 256 + c = 2 ^ 8 * a + c := fun a c => by omega
  have hik : i &&& k < 2 ^ 8 := lt_of_le_of_lt Nat.and_le_left hi
  refine Nat.eq_of_testBit_eq fun j => ?_
  rw [Nat.testBit_and, e, e, e, Nat.testBit_two_pow_mul_add _ hi, Nat.testBit_two_pow_mul_add _ hk, Nat.testBit_two_pow_mul_add _ hik]
  split <;> simp

theorem and_ofNat (i k : ℕ) : BitVec.ofNat 32 i &&& BitVec.ofNat 32 k = BitVec.ofNat 32 (i &&& k) := by
  simp

/-- The sign at a column of 1024, as the sign of its group of 256 times the sign inside the group. -/
theorem sign_tiles (b q : Fin 4) (i k : Fin 256) :
    (popWord (BitVec.ofNat 32 (b.val * 256 + i.val) &&& BitVec.ofNat 32 (q.val * 256 + k.val))).toInt
      = (popWord (BitVec.ofNat 32 b.val &&& BitVec.ofNat 32 q.val)).toInt * (signWord (BitVec.ofNat 32 i.val &&& BitVec.ofNat 32 k.val)).toInt := by
  rw [and_ofNat, and_ofNat, and_ofNat, and_tiles _ _ _ _ i.isLt k.isLt]
  have hb : b.val &&& q.val < 4 := lt_of_le_of_lt Nat.and_le_left b.isLt
  have hu : i.val &&& k.val < 256 := lt_of_le_of_lt Nat.and_le_left i.isLt
  exact sign_of_pop ⟨_, hb⟩ ⟨_, hu⟩

theorem coe_sum {n : ℕ} (f : Fin n → ℝ) : ((∑ i, f i : ℝ) : EReal) = ∑ i, (f i : EReal) :=
  map_sum (⟨⟨Real.toEReal, EReal.coe_zero⟩, EReal.coe_add⟩ : ℝ →+ EReal) f Finset.univ

theorem rotPart_apply (x : Vec Ideal S432x6144 .bf16) (s : Vec Ideal S1x6144 .i8) (xr : Fin 432 → Fin 6144 → ℝ) (hx : ∀ r c, x (ix2 r c) = ((xr r c : ℝ) : EReal))
    (c : ℕ) (hc : c + 256 ≤ 6144) (r : Fin 432) (k : Fin 256) :
    rotPart (F := Ideal) x s c hc (ix2 (n0 := 432) (n1 := 256) r k)
      = ((∑ i : Fin 256, xr r ⟨c + i, by omega⟩ * (((s (ix2 (n0 := 1) (n1 := 6144) 0 ⟨c + i, by omega⟩) : BitVec 8).toInt : ℝ))
          * (((signWord (BitVec.ofNat 32 i &&& BitVec.ofNat 32 k)).toInt : ℝ)) : ℝ) : EReal) := by
  unfold rotPart
  rw [rotDot_apply, coe_sum]
  refine Finset.sum_congr rfl fun i _ => ?_
  have e1 : (View.ld (Val := Elt Ideal) (e' := .bf16) x (Rect.unit (s := S432x6144) ![0, c] S432x256.size (inbX c hc))) (ix2 r i) = x (ix2 r ⟨c + i, by omega⟩) :=
    congrArg x (funext fun a => Fin.ext (by fin_cases a <;> simp [Rect.emb_apply, ix2]))
  have e2 : (View.ld (Val := Elt Ideal) (e' := .i8) s (Rect.unit (s := S1x6144) ![0, c] S1x256.size (inbS c hc))) (ix2 0 i) = s (ix2 0 ⟨c + i, by omega⟩) :=
    congrArg s (funext fun a => Fin.ext (by fin_cases a <;> simp [Rect.emb_apply, ix2]))
  rw [hmat_apply, e1, e2, hx, EReal.coe_mul, EReal.coe_mul]

omit [Facts] in
theorem ofBits_32nd : Ideal.ofBits .f32 0x3D000000#32 = (((1 : ℝ) / 32 : ℝ) : EReal) := by
  simp [Ideal.ofBits, Ideal.ieee, -EReal.coe_mul]; norm_num

theorem rotOut_apply (v : FVec Ideal S432x256 .f32) (z : S432x256.Idx) : rotOut (F := Ideal) v z = v z * (((1 / 32 : ℝ)) : EReal) := by
  unfold rotOut
  pointwise
  rw [← ofBits_32nd]

theorem pop4 : ∀ b q : Fin 4, (popWord (BitVec.ofNat 32 b.val &&& BitVec.ofNat 32 q.val)).toInt
    = (![![1, 1, 1, 1], ![1, -1, 1, -1], ![1, 1, -1, -1], ![1, -1, -1, 1]] : Fin 4 → Fin 4 → ℤ) q b := by decide +kernel

/-- The rotated element: the sum of the reference over 1024 columns. -/
theorem rotBody_apply (x : Vec Ideal S432x6144 .bf16) (s : Vec Ideal S1x6144 .i8) (hx : ∀ z, ∃ a : ℝ, x z = (a : EReal))
    (r : Fin 432) (j : Fin 6) (t : Fin 1024) :
    rotBody (F := Ideal) x s (ix2 (n0 := 432) (n1 := 6144) r ⟨j.val * 1024 + t.val, by omega⟩)
      = (∑ i : Fin 1024, x (ix2 (n0 := 432) (n1 := 6144) r ⟨j.val * 1024 + i.val, by omega⟩)
          * (((s (ix2 (n0 := 1) (n1 := 6144) 0 ⟨j.val * 1024 + i.val, by omega⟩) : BitVec 8).toInt : ℝ) : EReal)
          * (((popWord (BitVec.ofNat 32 i &&& BitVec.ofNat 32 t)).toInt : ℝ) : EReal)) * (((1 / 32 : ℝ)) : EReal) := by
  choose a ha using hx
  have hx' : ∀ r c, x (ix2 r c) = ((a (ix2 r c) : ℝ) : EReal) := fun r c => ha _
  obtain ⟨q, k, rfl⟩ : ∃ (q : Fin 4) (k : Fin 256), t = ⟨q.val * 256 + k.val, by omega⟩ :=
    ⟨⟨t.val / 256, by omega⟩, ⟨t.val % 256, by omega⟩, Fin.ext (by show t.val = t.val / 256 * 256 + t.val % 256; omega)⟩
  have hj : (j.val * 1024 + (q.val * 256 + k.val)) / 1024 = j.val := by omega
  have hq : (j.val * 1024 + (q.val * 256 + k.val)) % 1024 / 256 = q.val := by omega
  have hk : (j.val * 1024 + (q.val * 256 + k.val)) % 256 = k.val := by omega
  have step : rotBody (F := Ideal) x s (ix2 (n0 := 432) (n1 := 6144) r ⟨j.val * 1024 + (q.val * 256 + k.val), by omega⟩)
      = rotPay (F := Ideal) x s j.val j.isLt q.val (ix2 (n0 := 432) (n1 := 256) r k) := by
    unfold rotBody
    simp only [ix2_0, ix2_1, hj, hq, hk, ix2_eq_valueIdx]
  rw [step]
  have sum4 : (∑ i : Fin 1024, x (ix2 (n0 := 432) (n1 := 6144) r ⟨j.val * 1024 + i.val, by omega⟩)
          * (((s (ix2 (n0 := 1) (n1 := 6144) 0 ⟨j.val * 1024 + i.val, by omega⟩) : BitVec 8).toInt : ℝ) : EReal)
          * (((popWord (BitVec.ofNat 32 i &&& BitVec.ofNat 32 (q.val * 256 + k.val))).toInt : ℝ) : EReal))
      = ((∑ b : Fin 4, ((popWord (BitVec.ofNat 32 b.val &&& BitVec.ofNat 32 q.val)).toInt : ℝ)
          * ∑ i : Fin 256, a (ix2 (n0 := 432) (n1 := 6144) r ⟨j.val * 1024 + b.val * 256 + i.val, by omega⟩)
            * ((s (ix2 (n0 := 1) (n1 := 6144) 0 ⟨j.val * 1024 + b.val * 256 + i.val, by omega⟩) : BitVec 8).toInt : ℝ)
            * ((signWord (BitVec.ofNat 32 i &&& BitVec.ofNat 32 k)).toInt : ℝ) : ℝ) : EReal) := by
    rw [Fin.sum_univ_tiles 4 256 rfl, coe_sum]
    refine Finset.sum_congr rfl fun b _ => ?_
    rw [Finset.mul_sum, coe_sum]
    refine Finset.sum_congr rfl fun i _ => ?_
    have e : (⟨j.val * 1024 + (b.val * 256 + i.val), by omega⟩ : Fin 6144) = ⟨j.val * 1024 + b.val * 256 + i.val, by omega⟩ := Fin.ext (by simp only []; omega)
    rw [hx', sign_tiles b q i k, e, ← EReal.coe_mul, ← EReal.coe_mul]
    congr 1
    push_cast
    ring
  rw [sum4]
  simp only [Fin.sum_univ_four, pop4]
  unfold rotPay
  fin_cases q <;> simp only [rotOut_apply] <;> pointwise [rotPart_apply x s (fun r c => a (ix2 r c)) hx'] <;>
    simp only [← EReal.coe_add, ← EReal.coe_sub] <;> congr 2 <;> simp <;> ring

end Cert.KernelIdeal.Val

end
-- ==== Proof.MmVal.lean ====
/- The decoded weights and the block of the product over the extended reals, element by element. -/
module

public import proofs.«01_k».proof.Proof.Body
public import Idealize.ShloMosaic.Lib.Pointwise
public import Idealize.ShloMosaic.Lib.BitcastPair

@[expose] public section

set_option maxRecDepth 16384

noncomputable section

namespace Cert.KernelIdeal.Val

open Idealize.ShloMosaic
open Cert.KernelIdeal Cert.KernelIdeal.Roll

variable [Facts]
open Facts
open Shapes1.Facts₀ Shapes4.Facts₀

/-- The lane a byte looks up: its low seven bits, made non-negative. -/
def lane (y : BitVec 32) : BitVec 32 :=
  Scalar.select (IntOp.cmpi .slt (IntOp.andi y 127#32) 0#32) (IntOp.addi (IntOp.andi y 127#32) 128#32) (IntOp.andi y 127#32)

theorem lane_byte : ∀ u : Fin 256, (lane ((BitVec.ofNat 8 u.val).setWidth 32)).toNat % 128 = u.val % 128 := by decide +kernel

theorem low_byte : ∀ u : Fin 256, IntOp.cmpi .slt ((BitVec.ofNat 8 u.val).setWidth 32) 128#32 = if u.val < 128 then 1#1 else 0#1 := by decide +kernel

theorem words_apply (lo hi b : IVec S8x128 32) (i : Fin 8) (l : Fin 128) (u : BitVec 8) (hb : b (ix2 i l) = u.setWidth 32) :
    words lo hi b (ix2 (n0 := 8) (n1 := 128) i l)
      = if u.toNat < 128 then lo (ix2 (n0 := 8) (n1 := 128) i ⟨u.toNat % 128, Nat.mod_lt _ (by decide)⟩)
        else hi (ix2 (n0 := 8) (n1 := 128) i ⟨u.toNat % 128, Nat.mod_lt _ (by decide)⟩) := by
  unfold words
  simp only [shapeCast_shapeCast]
  have hl : ∀ y : BitVec 32, y = b (ix2 i l) → (lane y).toNat % 128 = u.toNat % 128 := by
    rintro y rfl
    rw [hb, show u = BitVec.ofNat 8 u.toNat by simp]
    have := lane_byte ⟨u.toNat, u.isLt⟩
    simpa using this
  have hc : IntOp.cmpi .slt (b (ix2 i l)) 128#32 = if u.toNat < 128 then 1#1 else 0#1 := by
    rw [hb, show u = BitVec.ofNat 8 u.toNat by simp]
    have := low_byte ⟨u.toNat, u.isLt⟩
    simpa using this
  pointwise
  rw [hc]
  have e : ∀ w : IVec S8x128 32, w (ix2 i ⟨(lane (b (ix2 i l))).toNat % 128, Nat.mod_lt _ (by decide)⟩) = w (ix2 i ⟨u.toNat % 128, Nat.mod_lt _ (by decide)⟩) :=
    fun w => congrArg w (by congr 1; exact Fin.ext (hl _ rfl))
  by_cases h : u.toNat < 128
  · rw [if_pos h, if_pos h]; exact e lo
  · rw [if_neg h, if_neg h]; exact e hi

theorem strip_apply (lo hi : IVec S8x128 32) (t : IVec S128x128 32) (sc : FVec Ideal S1x128 .bf16) (v : ℕ) (hv : v < 16) (i : Fin 16) (l : Fin 128) :
    strip (F := Ideal) lo hi t sc v hv (ix2 (n0 := 16) (n1 := 128) i l)
      = Ideal.ofBits .bf16 ((words lo hi (extractStridedSlice S8x128 ![v * 8, 0] t (slicesV (v * 8) (by omega)))
          (ix2 (n0 := 8) (n1 := 128) ⟨i.val / 2, by omega⟩ l)).extractLsb' (16 * (i.val % 2)) 16) * sc (ix2 (n0 := 1) (n1 := 128) 0 l) := by
  unfold strip
  rw [shapeCast_self]
  pointwise [bitcast_32_16]
  congr 3
  refine congrArg _ (funext fun a => Fin.ext ?_)
  fin_cases a <;> rfl

theorem mmOut_apply (x : FVec Ideal S864x6144 .bf16) (w : FVec Ideal S6144x512 .bf16) (r : Fin 864) (n : Fin 512) :
    mmOut (F := Ideal) x w (ix2 (n0 := 864) (n1 := 512) r n)
      = ∑ k : Fin 6144, x (ix2 (n0 := 864) (n1 := 6144) r k) * w (ix2 (n0 := 6144) (n1 := 512) k n) := by
  unfold mmOut
  pointwise

theorem turned_slice (b : IVec S128x128 8) (v : ℕ) (hv : v < 16) (i : Fin 8) (l : Fin 128) :
    extractStridedSlice S8x128 ![v * 8, 0] (turned b) (slicesV (v * 8) (by omega)) (ix2 (n0 := 8) (n1 := 128) i l)
      = (b (ix2 (n0 := 128) (n1 := 128) l ⟨v * 8 + i.val, by omega⟩)).setWidth 32 := by
  unfold turned
  pointwise

theorem lutHalf_apply (t : Vec Ideal S16x128 .i32) (r : ℕ) (hr : r + 8 ≤ 16) (i : Fin 8) (l : Fin 128) :
    lutHalf (F := Ideal) t r hr (ix2 (n0 := 8) (n1 := 128) i l) = t (ix2 (n0 := 16) (n1 := 128) ⟨r + i.val, by omega⟩ l) := by
  unfold lutHalf
  refine (congrFun (shapeCast_self (s := S8x128) _ _) _).trans ?_
  exact congrArg t (funext fun a => Fin.ext (by fin_cases a <;> simp [Rect.emb_apply, ix2]))

theorem scaleRow_apply (a : Vec Ideal S6x512 .bf16) (j n : ℕ) (hj : j < 24) (hn : n < 4) (l : Fin 128) :
    scaleRow (F := Ideal) a j n hj hn (ix2 (n0 := 1) (n1 := 128) 0 l)
      = a (ix2 (n0 := 6) (n1 := 512) ⟨j / 4, by omega⟩ ⟨n * 128 + l.val, by omega⟩) := by
  unfold scaleRow
  refine (congrFun (shapeCast_self (s := S1x128) _ _) _).trans ?_
  exact congrArg a (funext fun x => Fin.ext (by fin_cases x <;> simp [Rect.emb_apply, ix2]))

theorem codes_ld (q : Vec Ideal S512x3072 .i8) (j n : ℕ) (hj : j < 24) (hn : n < 4) (l m : Fin 128) :
    (View.ld (Val := Elt Ideal) (e' := .i8) q (Rect.unit (s := S512x3072) ![n * 128, j * 128] S128x128.size (inbC _ _ (by omega) (by omega)))) (ix2 (n0 := 128) (n1 := 128) l m)
      = q (ix2 (n0 := 512) (n1 := 3072) ⟨n * 128 + l.val, by omega⟩ ⟨j * 128 + m.val, by omega⟩) :=
  congrArg q (funext fun x => Fin.ext (by fin_cases x <;> simp [Rect.emb_apply, ix2]))

/-- A decoded weight: a half of the table word of its byte of codes, times its group's scale. -/
theorem wBody_apply (t : Vec Ideal S16x128 .i32) (q : Vec Ideal S512x3072 .i8) (a : Vec Ideal S6x512 .bf16) (P : Fin 256 → BitVec 32)
    (hT : ∀ (r : Fin 16) (l : Fin 128), t (ix2 (n0 := 16) (n1 := 128) r l) = P ⟨r.val / 8 * 128 + l.val, by omega⟩) (k : Fin 6144) (n : Fin 512) :
    wBody (F := Ideal) t q a (ix2 (n0 := 6144) (n1 := 512) k n)
      = Ideal.ofBits .bf16 ((P ⟨(q (ix2 (n0 := 512) (n1 := 3072) n ⟨k.val / 2, by omega⟩) : BitVec 8).toNat, BitVec.isLt _⟩).extractLsb' (16 * (k.val % 2)) 16)
          * a (ix2 (n0 := 6) (n1 := 512) ⟨k.val / 1024, by omega⟩ n) := by
  unfold wBody wPay
  rw [← ix2_eq_valueIdx, strip_apply]
  simp only [ix2_0, ix2_1]
  rw [words_apply _ _ _ _ _ (q (ix2 (n0 := 512) (n1 := 3072) n ⟨k.val / 2, by omega⟩)), scaleRow_apply, lutHalf_apply, lutHalf_apply, hT, hT]
  · have e0 : k.val % 16 % 2 = k.val % 2 := by omega
    congr 2
    · congr 1
      · simp only [e0]
      · split
        · congr 1; apply Fin.ext; simp only []; omega
        · have := (q (ix2 (n0 := 512) (n1 := 3072) n ⟨k.val / 2, by omega⟩) : BitVec 8).isLt
          congr 1; apply Fin.ext; simp only []; omega
    · congr 1 <;> apply Fin.ext <;> simp only [] <;> omega
  · unfold codeBlk
    rw [turned_slice, codes_ld]
    · refine congrArg (fun z => BitVec.setWidth 32 (q z)) ?_
      congr 1 <;> apply Fin.ext <;> simp only [] <;> omega
    all_goals (have := k.isLt; have := n.isLt; omega)
  all_goals (have := k.isLt; have := n.isLt; omega)

theorem mmBody_apply (x : Vec Ideal S864x6144 .bf16) (t : Vec Ideal S16x128 .i32) (q : Vec Ideal S512x3072 .i8) (a : Vec Ideal S6x512 .bf16) (P : Fin 256 → BitVec 32)
    (hT : ∀ (r : Fin 16) (l : Fin 128), t (ix2 (n0 := 16) (n1 := 128) r l) = P ⟨r.val / 8 * 128 + l.val, by omega⟩) (r : Fin 864) (n : Fin 512) :
    mmBody (F := Ideal) x t q a (ix2 (n0 := 864) (n1 := 512) r n)
      = ∑ k : Fin 6144, x (ix2 (n0 := 864) (n1 := 6144) r k)
          * (Ideal.ofBits .bf16 ((P ⟨(q (ix2 (n0 := 512) (n1 := 3072) n ⟨k.val / 2, by omega⟩) : BitVec 8).toNat, BitVec.isLt _⟩).extractLsb' (16 * (k.val % 2)) 16)
          * a (ix2 (n0 := 6) (n1 := 512) ⟨k.val / 1024, by omega⟩ n)) := by
  unfold mmBody
  rw [mmOut_apply]
  exact Finset.sum_congr rfl fun k _ => by rw [wBody_apply t q a P hT]

end Cert.KernelIdeal.Val

end
-- ==== Proof.ArrVal.lean ====
/- The two arrays the kernels leave, over the extended reals, as functions of the arrays they read. -/
module

public import proofs.«01_k».proof.Proof.RunI
public import proofs.«01_k».proof.Proof.RotVal
public import proofs.«01_k».proof.Proof.MmVal
public import Idealize.ShloMosaic.Lib.Pipeline.ValueKit.Geometry

@[expose] public section

set_option maxRecDepth 16384

noncomputable section

namespace Cert.KernelIdeal.Val

open Idealize.ShloMosaic Idealize.ShloMosaic.TcCoe
open Idealize.ShloMosaic.Pipeline (Dat)
open Cert.KernelIdeal Cert.KernelIdeal.Roll Cert.KernelIdeal.Gen Cert.KernelIdeal.Run

/-- Every row rotated: group by group of 1024 columns, the signed sum over the group, scaled. -/
def rotArr (X : S3456x6144.Idx → EReal) (s : S1x6144.Idx → BitVec 8) (r : Fin 3456) (j : Fin 6) (t : Fin 1024) : EReal :=
  (∑ i : Fin 1024, X (ix2 (n0 := 3456) (n1 := 6144) r ⟨j.val * 1024 + i.val, by omega⟩)
      * (((s (ix2 (n0 := 1) (n1 := 6144) 0 ⟨j.val * 1024 + i.val, by omega⟩)).toInt : ℝ) : EReal)
      * (((popWord (BitVec.ofNat 32 i &&& BitVec.ofNat 32 t)).toInt : ℝ) : EReal)) * (((1 / 32 : ℝ)) : EReal)

/-- The product with the decoded weights. -/
def mmArr (X : S3456x6144.Idx → EReal) (P : Fin 256 → BitVec 32) (q : S16384x3072.Idx → BitVec 8) (a : S6x16384.Idx → EReal) (r : Fin 3456) (n : Fin 16384) : EReal :=
  ∑ k : Fin 6144, X (ix2 (n0 := 3456) (n1 := 6144) r k)
    * (Ideal.ofBits .bf16 ((P ⟨(q (ix2 (n0 := 16384) (n1 := 3072) n ⟨k.val / 2, by omega⟩)).toNat, BitVec.isLt _⟩).extractLsb' (16 * (k.val % 2)) 16)
      * a (ix2 (n0 := 6) (n1 := 16384) ⟨k.val / 1024, by omega⟩ n))

theorem i0_0 : ∀ t : Fin cfg0.N, win0_0.index t = ![(grid0.coords t 0).val, 0] := (by decide +kernel : ∀ t : Fin grid0.N, _)
theorem i0_1 : ∀ t : Fin cfg0.N, win0_1.index t = ![0, 0] := (by decide +kernel : ∀ t : Fin grid0.N, _)
theorem i0_2 : ∀ t : Fin cfg0.N, win0_2.index t = ![(grid0.coords t 0).val, 0] := (by decide +kernel : ∀ t : Fin grid0.N, _)
theorem i1_0 : ∀ t : Fin cfg1.N, win1_0.index t = ![(grid1.coords t 0).val, 0] := (by decide +kernel : ∀ t : Fin grid1.N, _)
theorem i1_1 : ∀ t : Fin cfg1.N, win1_1.index t = ![0, 0] := (by decide +kernel : ∀ t : Fin grid1.N, _)
theorem i1_2 : ∀ t : Fin cfg1.N, win1_2.index t = ![(grid1.coords t 1).val, 0] := (by decide +kernel : ∀ t : Fin grid1.N, _)
theorem i1_3 : ∀ t : Fin cfg1.N, win1_3.index t = ![0, (grid1.coords t 1).val] := (by decide +kernel : ∀ t : Fin grid1.N, _)
theorem i1_4 : ∀ t : Fin cfg1.N, win1_4.index t = ![(grid1.coords t 0).val, (grid1.coords t 1).val] := (by decide +kernel : ∀ t : Fin grid1.N, _)

variable (V : (c : Dev nD) → (b : Ref sig .tc) → Buf (Elt Ideal) ((c : Thread nD τ).loc b))

theorem iblk0_0_apply (c : Dev nD) (t : Fin cfg0.N) (r : Fin 432) (k : Fin 6144) (h : (grid0.coords t 0).val * 432 + r.val < 3456) :
    iblk0 V c 0 t (ix2 (n0 := 432) (n1 := 6144) r k) = V c main_v0 (ix2 (n0 := 3456) (n1 := 6144) ⟨(grid0.coords t 0).val * 432 + r.val, h⟩ k) := by
  blk_simp [iblk0]
  refine congrArg (V c main_v0) ?_
  blk_ext [i0_0]

theorem iblk0_1_apply (c : Dev nD) (t : Fin cfg0.N) (k : Fin 6144) :
    iblk0 V c 1 t (ix2 (n0 := 1) (n1 := 6144) 0 k) = V c main_v1 (ix2 (n0 := 1) (n1 := 6144) 0 k) := by
  blk_simp [iblk0]
  refine congrArg (V c main_v1) ?_
  blk_ext [i0_1]

theorem coords0_lt : ∀ t : Fin cfg0.N, (grid0.coords t 0).val < 8 := (by decide +kernel : ∀ t : Fin grid0.N, _)
theorem coords1_lt0 : ∀ t : Fin cfg1.N, (grid1.coords t 0).val < 4 := (by decide +kernel : ∀ t : Fin grid1.N, _)
theorem coords1_lt1 : ∀ t : Fin cfg1.N, (grid1.coords t 1).val < 32 := (by decide +kernel : ∀ t : Fin grid1.N, _)

theorem row0 (t : Fin cfg0.N) (r : Fin 432) : (grid0.coords t 0).val * 432 + r.val < 3456 := by have := coords0_lt t; omega
theorem row1 (t : Fin cfg1.N) (r : Fin 864) : (grid1.coords t 0).val * 864 + r.val < 3456 := by have := coords1_lt0 t; omega
theorem col1 (t : Fin cfg1.N) (r : Fin 512) : (grid1.coords t 1).val * 512 + r.val < 16384 := by have := coords1_lt1 t; omega

/-- One step of the rotation. -/
theorem rot_step (c : Dev nD) (hx : ∀ z : S3456x6144.Idx, ∃ a : ℝ, V c main_v0 z = (a : EReal)) (t : Fin cfg0.N) (r : Fin 432) (j : Fin 6) (u : Fin 1024) :
    rotBody (F := Ideal) (iblk0 V c 0 t) (iblk0 V c 1 t) (ix2 (n0 := 432) (n1 := 6144) r ⟨j.val * 1024 + u.val, by omega⟩)
      = rotArr (V c main_v0) (V c main_v1) ⟨(grid0.coords t 0).val * 432 + r.val, row0 t r⟩ j u := by
  have hf : ∀ z : S432x6144.Idx, ∃ a : ℝ, iblk0 V c 0 t z = (a : EReal) := fun z => by
    have e := iblk0_0_apply V c t (z 0) (z 1) (row0 t (z 0))
    rw [← eq_ix2 (n0 := 432) (n1 := 6144) z] at e
    obtain ⟨a, ha⟩ := hx (ix2 (n0 := 3456) (n1 := 6144) ⟨(grid0.coords t 0).val * 432 + (z 0).val, row0 t (z 0)⟩ (z 1))
    exact ⟨a, e.trans ha⟩
  rw [rotBody_apply _ _ hf]
  unfold rotArr
  refine congrArg (· * _) (Finset.sum_congr rfl fun i _ => ?_)
  rw [iblk0_0_apply V c t r _ (row0 t r), iblk0_1_apply]

theorem rot_at (c : Dev nD) (hx : ∀ z : S3456x6144.Idx, ∃ a : ℝ, V c main_v0 z = (a : EReal)) (t : Fin cfg0.N) (y : S432x6144.Idx) (z : S3456x6144.Idx)
    (h0 : (z 0).val = (grid0.coords t 0).val * 432 + (y 0).val) (h1 : (z 1).val = (y 1).val) :
    rotBody (F := Ideal) (iblk0 V c 0 t) (iblk0 V c 1 t) y
      = rotArr (V c main_v0) (V c main_v1) (z 0) ⟨(z 1).val / 1024, by have : (z 1).val < 6144 := (z 1).isLt; omega⟩ ⟨(z 1).val % 1024, Nat.mod_lt _ (by decide)⟩ := by
  have hz1 : (z 1).val < 6144 := (z 1).isLt
  have ey : y = ix2 (n0 := 432) (n1 := 6144) (y 0) ⟨(z 1).val / 1024 * 1024 + (z 1).val % 1024, by omega⟩ := by
    refine (eq_ix2 (n0 := 432) (n1 := 6144) y).trans (congrArg (ix2 (n0 := 432) (n1 := 6144) (y 0)) (Fin.ext ?_))
    show (y 1).val = (z 1).val / 1024 * 1024 + (z 1).val % 1024
    omega
  have ez : (z 0 : Fin 3456) = ⟨(grid0.coords t 0).val * 432 + (y 0).val, row0 t (y 0)⟩ := Fin.ext h0
  rw [ez]
  exact (congrArg (rotBody (F := Ideal) (iblk0 V c 0 t) (iblk0 V c 1 t)) ey).trans (rot_step V c hx t (y 0) ⟨(z 1).val / 1024, by omega⟩ ⟨(z 1).val % 1024, by omega⟩)

/-- The rotated array, where what the rotation reads is finite. -/
theorem arr0 (c : Dev nD) (hx : ∀ z : S3456x6144.Idx, ∃ a : ℝ, V c main_v0 z = (a : EReal)) :
    (dat0 V c).arrAt 2 cfg0.N = fun z : S3456x6144.Idx =>
      rotArr (V c main_v0) (V c main_v1) (z 0) ⟨(z 1).val / 1024, by have : (z 1).val < 6144 := (z 1).isLt; omega⟩ ⟨(z 1).val % 1024, Nat.mod_lt _ (by decide)⟩ := by
  refine (dat0 V c).arrAt_eq_of_covers 2 _ (by decide +kernel) fun t hf y => ?_
  rw [after0_2]
  refine rot_at V c hx t y _ ?_ ?_
  · blk_simp [i0_2]
  · blk_simp [i0_2]

theorem iblk1_0_apply (c : Dev nD) (t : Fin cfg1.N) (r : Fin 864) (k : Fin 6144) (h : (grid1.coords t 0).val * 864 + r.val < 3456) :
    iblk1 V c 0 t (ix2 (n0 := 864) (n1 := 6144) r k) = V c main_v2 (ix2 (n0 := 3456) (n1 := 6144) ⟨(grid1.coords t 0).val * 864 + r.val, h⟩ k) := by
  blk_simp [iblk1]
  refine congrArg (V c main_v2) ?_
  blk_ext [i1_0]

theorem iblk1_1_apply (c : Dev nD) (t : Fin cfg1.N) (r : Fin 16) (k : Fin 128) :
    iblk1 V c 1 t (ix2 (n0 := 16) (n1 := 128) r k) = V c main_v29 (ix2 (n0 := 16) (n1 := 128) r k) := by
  blk_simp [iblk1]
  refine congrArg (V c main_v29) ?_
  blk_ext [i1_1]

theorem iblk1_2_apply (c : Dev nD) (t : Fin cfg1.N) (r : Fin 512) (k : Fin 3072) (h : (grid1.coords t 1).val * 512 + r.val < 16384) :
    iblk1 V c 2 t (ix2 (n0 := 512) (n1 := 3072) r k) = V c main_arg3 (ix2 (n0 := 16384) (n1 := 3072) ⟨(grid1.coords t 1).val * 512 + r.val, h⟩ k) := by
  blk_simp [iblk1]
  refine congrArg (V c main_arg3) ?_
  blk_ext [i1_2]

theorem iblk1_3_apply (c : Dev nD) (t : Fin cfg1.N) (g : Fin 6) (r : Fin 512) (h : (grid1.coords t 1).val * 512 + r.val < 16384) :
    iblk1 V c 3 t (ix2 (n0 := 6) (n1 := 512) g r) = V c main_v31 (ix2 (n0 := 6) (n1 := 16384) g ⟨(grid1.coords t 1).val * 512 + r.val, h⟩) := by
  blk_simp [iblk1]
  refine congrArg (V c main_v31) ?_
  blk_ext [i1_3]

/-- One step of the product. -/
theorem mm_step (c : Dev nD) (P : Fin 256 → BitVec 32)
    (hT : ∀ (r : Fin 16) (l : Fin 128), V c main_v29 (ix2 (n0 := 16) (n1 := 128) r l) = P ⟨r.val / 8 * 128 + l.val, by omega⟩) (t : Fin cfg1.N) (r : Fin 864) (n : Fin 512) :
    mmBody (F := Ideal) (iblk1 V c 0 t) (iblk1 V c 1 t) (iblk1 V c 2 t) (iblk1 V c 3 t) (ix2 (n0 := 864) (n1 := 512) r n)
      = mmArr (V c main_v2) P (V c main_arg3) (V c main_v31) ⟨(grid1.coords t 0).val * 864 + r.val, row1 t r⟩ ⟨(grid1.coords t 1).val * 512 + n.val, col1 t n⟩ := by
  rw [mmBody_apply _ _ _ _ P (fun r l => (iblk1_1_apply V c t r l).trans (hT r l))]
  unfold mmArr
  refine Finset.sum_congr rfl fun k _ => ?_
  rw [iblk1_0_apply V c t r k (row1 t r), iblk1_3_apply V c t _ n (col1 t n)]
  simp only [iblk1_2_apply V c t n _ (col1 t n)]

theorem mm_at (c : Dev nD) (P : Fin 256 → BitVec 32)
    (hT : ∀ (r : Fin 16) (l : Fin 128), V c main_v29 (ix2 (n0 := 16) (n1 := 128) r l) = P ⟨r.val / 8 * 128 + l.val, by omega⟩) (t : Fin cfg1.N) (y : S864x512.Idx) (z : S3456x16384.Idx)
    (h0 : (z 0).val = (grid1.coords t 0).val * 864 + (y 0).val) (h1 : (z 1).val = (grid1.coords t 1).val * 512 + (y 1).val) :
    mmBody (F := Ideal) (iblk1 V c 0 t) (iblk1 V c 1 t) (iblk1 V c 2 t) (iblk1 V c 3 t) y
      = mmArr (V c main_v2) P (V c main_arg3) (V c main_v31) (z 0) (z 1) := by
  have e0 : (z 0 : Fin 3456) = ⟨(grid1.coords t 0).val * 864 + (y 0).val, row1 t (y 0)⟩ := Fin.ext h0
  have e1 : (z 1 : Fin 16384) = ⟨(grid1.coords t 1).val * 512 + (y 1).val, col1 t (y 1)⟩ := Fin.ext h1
  rw [e0, e1]
  exact (congrArg (mmBody (F := Ideal) (iblk1 V c 0 t) (iblk1 V c 1 t) (iblk1 V c 2 t) (iblk1 V c 3 t)) (eq_ix2 (n0 := 864) (n1 := 512) y)).trans (mm_step V c P hT t (y 0) (y 1))

/-- The product's array. -/
theorem arr1 (c : Dev nD) (P : Fin 256 → BitVec 32)
    (hT : ∀ (r : Fin 16) (l : Fin 128), V c main_v29 (ix2 (n0 := 16) (n1 := 128) r l) = P ⟨r.val / 8 * 128 + l.val, by omega⟩) :
    (dat1 V c).arrAt 4 cfg1.N = fun z : S3456x16384.Idx => mmArr (V c main_v2) P (V c main_arg3) (V c main_v31) (z 0) (z 1) := by
  refine (dat1 V c).arrAt_eq_of_covers 4 _ (by decide +kernel) fun t hf y => ?_
  rw [after1_4]
  refine mm_at V c P hT t y _ ?_ ?_
  · blk_simp [i1_4]
  · blk_simp [i1_4]

end Cert.KernelIdeal.Val

end
-- ==== Proof.RefVal.lean ====
/- What the reference computes over the extended reals, element by element: the rotated activations, and the product
   of their even and odd columns with the weights a byte's two halves pick from the codebook. -/
module

public import proofs.«01_k».proof.Proof.Gen.ReferenceIdeal.Read
public import proofs.«01_k».proof.Proof.RotVal
public import Idealize.ShloMosaic.Lib.Pointwise
public import Idealize.ShloMosaic.Lib.TwoAxisContraction

@[expose] public section

set_option maxRecDepth 16384

noncomputable section

namespace Cert.ReferenceIdeal.Val

open Idealize.ShloMosaic Idealize.ShloMosaic.TcCoe
open Cert.ReferenceIdeal Cert.ReferenceIdeal.Gen Cert.ReferenceIdeal.Read
open Cert.KernelIdeal.Val (popWord ofBits_32nd)

/-- Bit `s` of a word, as the reference asks for it. -/
def bitAt (c : BitVec 32) (s : BitVec 32) : BitVec 1 :=
  IntOp.cmpi .ne (IntOp.andi (IntOp.shrsi .host c s) 1#32) 0#32

/-- The reference's choice of one of sixteen values by the low four bits of a word. -/
def tree {α : Type} (c : BitVec 32) (f : Fin 16 → α) : α :=
  Scalar.select (bitAt c 3#32)
    (Scalar.select (bitAt c 2#32)
      (Scalar.select (bitAt c 1#32) (Scalar.select (bitAt c 0#32) (f 15) (f 14)) (Scalar.select (bitAt c 0#32) (f 13) (f 12)))
      (Scalar.select (bitAt c 1#32) (Scalar.select (bitAt c 0#32) (f 11) (f 10)) (Scalar.select (bitAt c 0#32) (f 9) (f 8))))
    (Scalar.select (bitAt c 2#32)
      (Scalar.select (bitAt c 1#32) (Scalar.select (bitAt c 0#32) (f 7) (f 6)) (Scalar.select (bitAt c 0#32) (f 5) (f 4)))
      (Scalar.select (bitAt c 1#32) (Scalar.select (bitAt c 0#32) (f 3) (f 2)) (Scalar.select (bitAt c 0#32) (f 1) (f 0))))

theorem tree_eq {α : Type} (c : BitVec 32) (f : Fin 16 → α) : tree c f = f (tree c id) := by
  unfold tree Scalar.select
  simp only [apply_ite f, id]

theorem tree_low : ∀ c : BitVec 8, tree (IntOp.andi (c.setWidth 32) 15#32) id = ⟨c.toNat % 16, Nat.mod_lt _ (by decide)⟩ := by
  decide +kernel

theorem tree_high : ∀ c : BitVec 8, tree (IntOp.shrsi .host (c.setWidth 32) 4#32) id = ⟨c.toNat / 16, by have := c.isLt; omega⟩ := by
  decide +kernel

variable (x0 : S3x1152x6144.Idx → EReal) (x1 : S6144.Idx → BitVec 8) (x2 : S16.Idx → BitVec 16)
  (x3 : S16384x3072.Idx → BitVec 8) (x4 : S16384x6.Idx → EReal)

/-- The codebook's value at code point `k`. -/
def cp (k : Fin 16) : EReal := Ideal.ofBits .bf16 (x2 (ix1 (n0 := 16) k))

theorem lo_0 (i : S_.Idx) : val_main_v33 (F := Ideal) x2 i = cp x2 0 := by
  unfold val_main_v33 val_main_v32 val_main_v0 cp
  pointwise

theorem lo_1 (i : S_.Idx) : val_main_v35 (F := Ideal) x2 i = cp x2 1 := by
  unfold val_main_v35 val_main_v34 val_main_v0 cp
  pointwise

theorem lo_2 (i : S_.Idx) : val_main_v37 (F := Ideal) x2 i = cp x2 2 := by
  unfold val_main_v37 val_main_v36 val_main_v0 cp
  pointwise

theorem lo_3 (i : S_.Idx) : val_main_v39 (F := Ideal) x2 i = cp x2 3 := by
  unfold val_main_v39 val_main_v38 val_main_v0 cp
  pointwise

theorem lo_4 (i : S_.Idx) : val_main_v41 (F := Ideal) x2 i = cp x2 4 := by
  unfold val_main_v41 val_main_v40 val_main_v0 cp
  pointwise

theorem lo_5 (i : S_.Idx) : val_main_v43 (F := Ideal) x2 i = cp x2 5 := by
  unfold val_main_v43 val_main_v42 val_main_v0 cp
  pointwise

theorem lo_6 (i : S_.Idx) : val_main_v45 (F := Ideal) x2 i = cp x2 6 := by
  unfold val_main_v45 val_main_v44 val_main_v0 cp
  pointwise

theorem lo_7 (i : S_.Idx) : val_main_v47 (F := Ideal) x2 i = cp x2 7 := by
  unfold val_main_v47 val_main_v46 val_main_v0 cp
  pointwise

theorem lo_8 (i : S_.Idx) : val_main_v49 (F := Ideal) x2 i = cp x2 8 := by
  unfold val_main_v49 val_main_v48 val_main_v0 cp
  pointwise

theorem lo_9 (i : S_.Idx) : val_main_v51 (F := Ideal) x2 i = cp x2 9 := by
  unfold val_main_v51 val_main_v50 val_main_v0 cp
  pointwise

theorem lo_10 (i : S_.Idx) : val_main_v53 (F := Ideal) x2 i = cp x2 10 := by
  unfold val_main_v53 val_main_v52 val_main_v0 cp
  pointwise

theorem lo_11 (i : S_.Idx) : val_main_v55 (F := Ideal) x2 i = cp x2 11 := by
  unfold val_main_v55 val_main_v54 val_main_v0 cp
  pointwise

theorem lo_12 (i : S_.Idx) : val_main_v57 (F := Ideal) x2 i = cp x2 12 := by
  unfold val_main_v57 val_main_v56 val_main_v0 cp
  pointwise

theorem lo_13 (i : S_.Idx) : val_main_v59 (F := Ideal) x2 i = cp x2 13 := by
  unfold val_main_v59 val_main_v58 val_main_v0 cp
  pointwise

theorem lo_14 (i : S_.Idx) : val_main_v61 (F := Ideal) x2 i = cp x2 14 := by
  unfold val_main_v61 val_main_v60 val_main_v0 cp
  pointwise

theorem lo_15 (i : S_.Idx) : val_main_v63 (F := Ideal) x2 i = cp x2 15 := by
  unfold val_main_v63 val_main_v62 val_main_v0 cp
  pointwise

theorem hi_0 (i : S_.Idx) : val_main_v108 (F := Ideal) x2 i = cp x2 0 := by
  unfold val_main_v108 val_main_v107 val_main_v0 cp
  pointwise

theorem hi_1 (i : S_.Idx) : val_main_v110 (F := Ideal) x2 i = cp x2 1 := by
  unfold val_main_v110 val_main_v109 val_main_v0 cp
  pointwise

theorem hi_2 (i : S_.Idx) : val_main_v112 (F := Ideal) x2 i = cp x2 2 := by
  unfold val_main_v112 val_main_v111 val_main_v0 cp
  pointwise

theorem hi_3 (i : S_.Idx) : val_main_v114 (F := Ideal) x2 i = cp x2 3 := by
  unfold val_main_v114 val_main_v113 val_main_v0 cp
  pointwise

theorem hi_4 (i : S_.Idx) : val_main_v116 (F := Ideal) x2 i = cp x2 4 := by
  unfold val_main_v116 val_main_v115 val_main_v0 cp
  pointwise

theorem hi_5 (i : S_.Idx) : val_main_v118 (F := Ideal) x2 i = cp x2 5 := by
  unfold val_main_v118 val_main_v117 val_main_v0 cp
  pointwise

theorem hi_6 (i : S_.Idx) : val_main_v120 (F := Ideal) x2 i = cp x2 6 := by
  unfold val_main_v120 val_main_v119 val_main_v0 cp
  pointwise

theorem hi_7 (i : S_.Idx) : val_main_v122 (F := Ideal) x2 i = cp x2 7 := by
  unfold val_main_v122 val_main_v121 val_main_v0 cp
  pointwise

theorem hi_8 (i : S_.Idx) : val_main_v124 (F := Ideal) x2 i = cp x2 8 := by
  unfold val_main_v124 val_main_v123 val_main_v0 cp
  pointwise

theorem hi_9 (i : S_.Idx) : val_main_v126 (F := Ideal) x2 i = cp x2 9 := by
  unfold val_main_v126 val_main_v125 val_main_v0 cp
  pointwise

theorem hi_10 (i : S_.Idx) : val_main_v128 (F := Ideal) x2 i = cp x2 10 := by
  unfold val_main_v128 val_main_v127 val_main_v0 cp
  pointwise

theorem hi_11 (i : S_.Idx) : val_main_v130 (F := Ideal) x2 i = cp x2 11 := by
  unfold val_main_v130 val_main_v129 val_main_v0 cp
  pointwise

theorem hi_12 (i : S_.Idx) : val_main_v132 (F := Ideal) x2 i = cp x2 12 := by
  unfold val_main_v132 val_main_v131 val_main_v0 cp
  pointwise

theorem hi_13 (i : S_.Idx) : val_main_v134 (F := Ideal) x2 i = cp x2 13 := by
  unfold val_main_v134 val_main_v133 val_main_v0 cp
  pointwise

theorem hi_14 (i : S_.Idx) : val_main_v136 (F := Ideal) x2 i = cp x2 14 := by
  unfold val_main_v136 val_main_v135 val_main_v0 cp
  pointwise

theorem hi_15 (i : S_.Idx) : val_main_v138 (F := Ideal) x2 i = cp x2 15 := by
  unfold val_main_v138 val_main_v137 val_main_v0 cp
  pointwise

theorem byte_apply (n : Fin 16384) (g : Fin 6) (b : Fin 512) :
    val_main_v27 (F := Ideal) x3 (ix3 (n0 := 16384) (n1 := 6) (n2 := 512) n g b)
      = (x3 (ix2 (n0 := 16384) (n1 := 3072) n ⟨g.val * 512 + b.val, by omega⟩)).setWidth 32 := by
  unfold val_main_v27 val_main_v26
  pointwise

theorem low_tree (i : S16384x6x512.Idx) :
    val_main_v102 (F := Ideal) x2 x3 i = tree (IntOp.andi (val_main_v27 (F := Ideal) x3 i) 15#32) (cp x2) := by
  unfold tree bitAt
  simp only [val_main_v64_apply, val_main_v65_apply, val_main_v66_apply, val_main_v67_apply, val_main_v68_apply, val_main_v69_apply, val_main_v70_apply, val_main_v71_apply, val_main_v72_apply, val_main_v73_apply, val_main_v74_apply, val_main_v75_apply, val_main_v76_apply, val_main_v77_apply, val_main_v78_apply, val_main_v79_apply, val_main_v80_apply, val_main_v81_apply, val_main_v82_apply, val_main_v83_apply, val_main_v84_apply, val_main_v85_apply, val_main_v86_apply, val_main_v87_apply, val_main_v88_apply, val_main_v89_apply, val_main_v90_apply, val_main_v91_apply, val_main_v92_apply, val_main_v93_apply, val_main_v94_apply, val_main_v95_apply, val_main_v96_apply, val_main_v97_apply, val_main_v98_apply, val_main_v99_apply, val_main_v100_apply, val_main_v101_apply, val_main_v102_apply, val_main_v30_apply, val_main_v31_apply, val_main_call0_v0_apply, val_main_call0_v1_apply, val_main_call1_v0_apply, val_main_call1_v1_apply, val_main_call2_v0_apply, val_main_call2_v1_apply, val_main_call3_v0_apply, val_main_call3_v1_apply, val_main_call4_v0_apply, val_main_call4_v1_apply, val_main_call5_v0_apply, val_main_call5_v1_apply, val_main_call6_v0_apply, val_main_call6_v1_apply, val_main_call7_v0_apply, val_main_call7_v1_apply, val_main_c_2_apply, val_main_c_3_apply, val_main_c_4_apply, val_main_c_5_apply, val_main_c_6_apply, val_main_c_7_apply, val_main_c_8_apply, val_main_c_9_apply, val_main_c_10_apply, val_main_c_11_apply, val_main_c_12_apply, val_main_c_13_apply, val_main_c_14_apply, lo_0, lo_1, lo_2, lo_3, lo_4, lo_5, lo_6, lo_7, lo_8, lo_9, lo_10, lo_11, lo_12, lo_13, lo_14, lo_15]

theorem high_tree (i : S16384x6x512.Idx) :
    val_main_v177 (F := Ideal) x2 x3 i = tree (IntOp.shrsi .host (val_main_v27 (F := Ideal) x3 i) 4#32) (cp x2) := by
  unfold tree bitAt
  simp only [val_main_v139_apply, val_main_v140_apply, val_main_v141_apply, val_main_v142_apply, val_main_v143_apply, val_main_v144_apply, val_main_v145_apply, val_main_v146_apply, val_main_v147_apply, val_main_v148_apply, val_main_v149_apply, val_main_v150_apply, val_main_v151_apply, val_main_v152_apply, val_main_v153_apply, val_main_v154_apply, val_main_v155_apply, val_main_v156_apply, val_main_v157_apply, val_main_v158_apply, val_main_v159_apply, val_main_v160_apply, val_main_v161_apply, val_main_v162_apply, val_main_v163_apply, val_main_v164_apply, val_main_v165_apply, val_main_v166_apply, val_main_v167_apply, val_main_v168_apply, val_main_v169_apply, val_main_v170_apply, val_main_v171_apply, val_main_v172_apply, val_main_v173_apply, val_main_v174_apply, val_main_v175_apply, val_main_v176_apply, val_main_v177_apply, val_main_v105_apply, val_main_v106_apply, val_main_call15_v0_apply, val_main_call15_v1_apply, val_main_call16_v0_apply, val_main_call16_v1_apply, val_main_call17_v0_apply, val_main_call17_v1_apply, val_main_call18_v0_apply, val_main_call18_v1_apply, val_main_call19_v0_apply, val_main_call19_v1_apply, val_main_call20_v0_apply, val_main_call20_v1_apply, val_main_call21_v0_apply, val_main_call21_v1_apply, val_main_call22_v0_apply, val_main_call22_v1_apply, val_main_c_15_apply, val_main_c_16_apply, val_main_c_17_apply, val_main_c_18_apply, val_main_c_19_apply, val_main_c_20_apply, val_main_c_21_apply, val_main_c_22_apply, val_main_c_23_apply, val_main_c_24_apply, val_main_c_25_apply, val_main_c_26_apply, val_main_c_27_apply, hi_0, hi_1, hi_2, hi_3, hi_4, hi_5, hi_6, hi_7, hi_8, hi_9, hi_10, hi_11, hi_12, hi_13, hi_14, hi_15]

/-- The reference's weight for the even columns: the low half of the byte, scaled. -/
theorem low_apply (n : Fin 16384) (g : Fin 6) (b : Fin 512) :
    val_main_v104 (F := Ideal) x2 x3 x4 (ix3 (n0 := 16384) (n1 := 6) (n2 := 512) n g b)
      = cp x2 ⟨(x3 (ix2 (n0 := 16384) (n1 := 3072) n ⟨g.val * 512 + b.val, by omega⟩)).toNat % 16, Nat.mod_lt _ (by decide)⟩ * x4 (ix2 (n0 := 16384) (n1 := 6) n g) := by
  rw [val_main_v104_apply, low_tree, byte_apply, tree_eq, tree_low]
  unfold val_main_v103 val_main_v29 val_main_v28
  pointwise

/-- The reference's weight for the odd columns: the high half of the byte, scaled. -/
theorem high_apply (n : Fin 16384) (g : Fin 6) (b : Fin 512) :
    val_main_v179 (F := Ideal) x2 x3 x4 (ix3 (n0 := 16384) (n1 := 6) (n2 := 512) n g b)
      = cp x2 ⟨(x3 (ix2 (n0 := 16384) (n1 := 3072) n ⟨g.val * 512 + b.val, by omega⟩)).toNat / 16, by have := (x3 (ix2 (n0 := 16384) (n1 := 3072) n ⟨g.val * 512 + b.val, by omega⟩)).isLt; omega⟩ * x4 (ix2 (n0 := 16384) (n1 := 6) n g) := by
  rw [val_main_v179_apply, high_tree, byte_apply, tree_eq, tree_high]
  unfold val_main_v178 val_main_v29 val_main_v28
  pointwise

theorem sitofp_signExtend (b : BitVec 8) : FloatOps.sitofp (F := Ideal) FTy.f32 (BitVec.signExtend 32 b) = ((b.toInt : ℝ) : EReal) := by
  show ((((BitVec.signExtend 32 b).toInt : ℝ)) : EReal) = _
  rw [BitVec.toInt_signExtend_of_le (by decide)]

theorem rot_apply (p : Fin 3) (t : Fin 1152) (j : Fin 6) (u : Fin 1024) :
    val_main_v25 (F := Ideal) x0 x1 (ix3 (n0 := 3) (n1 := 1152) (n2 := 6144) p t ⟨j.val * 1024 + u.val, by omega⟩)
      = (∑ i : Fin 1024, x0 (ix3 (n0 := 3) (n1 := 1152) (n2 := 6144) p t ⟨j.val * 1024 + i.val, by omega⟩)
          * (((x1 (ix1 (n0 := 6144) ⟨j.val * 1024 + i.val, by omega⟩)).toInt : ℝ) : EReal)
          * (((popWord (BitVec.ofNat 32 i &&& BitVec.ofNat 32 u)).toInt : ℝ) : EReal)) * (((1 / 32 : ℝ)) : EReal) := by
  unfold val_main_v25 val_main_v24 val_main_v23 val_main_v22 val_main_cst val_main_v21 val_main_v20 val_main_v19 val_main_v18 val_main_v17 val_main_v16 val_main_v15 val_main_v14 val_main_v13
  have hH : ∀ i v : Fin 1024, val_main_v12 (F := Ideal) (ix2 (n0 := 1024) (n1 := 1024) i v)
      = (((popWord (BitVec.ofNat 32 i &&& BitVec.ofNat 32 v)).toInt : ℝ) : EReal) := by
    intro i v
    unfold val_main_v12 val_main_v11 val_main_v10 val_main_v9 val_main_v8 val_main_v7 val_main_v6 val_main_v5 val_main_v4 val_main_v3 val_main_v2 val_main_v1
    pointwise
    rfl
  generalize val_main_v12 (F := Ideal) = H at hH ⊢
  pointwise
  rw [ofBits_32nd]
  refine congrArg (· * _) (Finset.sum_congr rfl fun i _ => ?_)
  rw [hH]
  refine congrArg (fun z => _ * z * _) ?_
  exact sitofp_signExtend _

theorem y_apply (p : Fin 3) (t : Fin 1152) (n : Fin 16384) :
    val_main_v188 (F := Ideal) x0 x1 x2 x3 x4 (ix3 (n0 := 3) (n1 := 1152) (n2 := 16384) p t n)
      = (∑ g : Fin 6, ∑ b : Fin 512, val_main_v25 (F := Ideal) x0 x1 (ix3 (n0 := 3) (n1 := 1152) (n2 := 6144) p t ⟨g.val * 1024 + b.val * 2, by omega⟩)
          * (cp x2 ⟨(x3 (ix2 (n0 := 16384) (n1 := 3072) n ⟨g.val * 512 + b.val, by omega⟩)).toNat % 16, Nat.mod_lt _ (by decide)⟩ * x4 (ix2 (n0 := 16384) (n1 := 6) n g)))
        + ∑ g : Fin 6, ∑ b : Fin 512, val_main_v25 (F := Ideal) x0 x1 (ix3 (n0 := 3) (n1 := 1152) (n2 := 6144) p t ⟨g.val * 1024 + b.val * 2 + 1, by omega⟩)
          * (cp x2 ⟨(x3 (ix2 (n0 := 16384) (n1 := 3072) n ⟨g.val * 512 + b.val, by omega⟩)).toNat / 16, by have := (x3 (ix2 (n0 := 16384) (n1 := 3072) n ⟨g.val * 512 + b.val, by omega⟩)).isLt; omega⟩ * x4 (ix2 (n0 := 16384) (n1 := 6) n g)) := by
  have hA := low_apply x2 x3 x4 n
  have hB := high_apply x2 x3 x4 n
  unfold val_main_v188 val_main_v187 val_main_v183 val_main_v186 val_main_v185 val_main_v184 val_main_v182 val_main_v181 val_main_v180
  generalize val_main_v25 (F := Ideal) x0 x1 = X
  generalize val_main_v104 (F := Ideal) x2 x3 x4 = A at hA ⊢
  generalize val_main_v179 (F := Ideal) x2 x3 x4 = B at hB ⊢
  pointwise
  simp only [hA, hB]

end Cert.ReferenceIdeal.Val

end
-- ==== Proof.Value.lean ====
/- The kernel's two results and the reference's, from memories with the same arguments, are the same arrays over the
   extended reals. -/
module

public import proofs.«01_k».proof.Defs
public import proofs.«01_k».proof.Proof.Gen.Pre_x_finite
public import proofs.«01_k».proof.Proof.HostVal
public import proofs.«01_k».proof.Proof.ArrVal
public import proofs.«01_k».proof.Proof.RefVal

@[expose] public section

set_option maxRecDepth 16384

noncomputable section

namespace Cert.Value

open Idealize.ShloMosaic Idealize.ShloMosaic.TcCoe Idealize.SL.Sem
open Cert.KernelIdeal Cert.KernelIdeal.Gen Cert.KernelIdeal.Run Cert.KernelIdeal.Val

/-- A sum over 6144 columns, group by group of 1024, the even columns and the odd columns apart. -/
theorem sum_split (f : Fin 6144 → EReal) :
    ∑ k, f k = (∑ g : Fin 6, ∑ b : Fin 512, f ⟨g.val * 1024 + b.val * 2, by omega⟩) + ∑ g : Fin 6, ∑ b : Fin 512, f ⟨g.val * 1024 + b.val * 2 + 1, by omega⟩ := by
  rw [Fin.sum_univ_tiles 6 1024 (by decide) f, ← Finset.sum_add_distrib]
  refine Finset.sum_congr rfl fun g _ => ?_
  rw [Fin.sum_univ_tiles 512 2 (by decide) fun t : Fin 1024 => f ⟨g.val * 1024 + t.val, by omega⟩, ← Finset.sum_add_distrib]
  refine Finset.sum_congr rfl fun b _ => ?_
  rw [Fin.sum_univ_two]
  rfl

theorem low_half (x y : BitVec 16) : (x.setWidth 32 ||| y.setWidth 32 <<< 16).extractLsb' 0 16 = x := by
  ext i hi
  simp [BitVec.getElem_extractLsb', BitVec.getLsbD_or, BitVec.getLsbD_shiftLeft, hi, show i < 32 by omega, show 16 + i < 32 by omega, BitVec.getLsbD_eq_getElem hi]

theorem high_half (x y : BitVec 16) : (x.setWidth 32 ||| y.setWidth 32 <<< 16).extractLsb' 16 16 = y := by
  ext i hi
  simp [BitVec.getElem_extractLsb', BitVec.getLsbD_or, BitVec.getLsbD_shiftLeft, hi, show i < 32 by omega, show 16 + i < 32 by omega, BitVec.getLsbD_eq_getElem hi]

theorem pair_low (b : S16.Idx → BitVec 16) (u : Fin 256) : (pair b u).extractLsb' 0 16 = b (ix1 (n0 := 16) ⟨u.val % 16, Nat.mod_lt _ (by decide)⟩) := low_half _ _
theorem pair_high (b : S16.Idx → BitVec 16) (u : Fin 256) : (pair b u).extractLsb' 16 16 = b (ix1 (n0 := 16) ⟨u.val / 16, by omega⟩) := high_half _ _

variable (m : (ℓ : Loc nD τ sig) → Buf (Elt Ideal) ℓ) (ρ : Dev nD → PrngReg) (c : Dev nD)

/-- The arguments, as functions of an index. -/
def X : S3x1152x6144.Idx → EReal := m ((c.tc : Thread nD τ).loc main_arg0)
def Sg : S6144.Idx → BitVec 8 := m ((c.tc : Thread nD τ).loc main_arg1)
def Cb : S16.Idx → BitVec 16 := m ((c.tc : Thread nD τ).loc main_arg2)
def Q : S16384x3072.Idx → BitVec 8 := m ((c.tc : Thread nD τ).loc main_arg3)
def Sc : S16384x6.Idx → EReal := m ((c.tc : Thread nD τ).loc main_arg4)

theorem V1_v0 (r : Fin 3456) (k : Fin 6144) :
    V1 m ρ c main_v0 (ix2 (n0 := 3456) (n1 := 6144) r k) = X m c (ix3 (n0 := 3) (n1 := 1152) (n2 := 6144) ⟨r.val / 1152, by omega⟩ ⟨r.val % 1152, Nat.mod_lt _ (by decide)⟩ k) :=
  v0_apply (W0 m ρ c) r k

theorem V1_v1 (k : Fin 6144) : V1 m ρ c main_v1 (ix2 (n0 := 1) (n1 := 6144) 0 k) = Sg m c (ix1 (n0 := 6144) k) :=
  v1_apply (W0 m ρ c) k

/-- The rotated array, at an index split into its group and its place in the group. -/
theorem W2_v2 (hx : ∀ z, ∃ a : ℝ, X m c z = (a : EReal)) (p : Fin 3) (t : Fin 1152) (j : Fin 6) (u : Fin 1024) :
    W2 m ρ c (Proc.devRef .tc main_v2) (ix2 (n0 := 3456) (n1 := 6144) ⟨p.val * 1152 + t.val, by omega⟩ ⟨j.val * 1024 + u.val, by omega⟩)
      = Cert.ReferenceIdeal.Read.val_main_v25 (F := Ideal) (X m c) (Sg m c) (ix3 (n0 := 3) (n1 := 1152) (n2 := 6144) p t ⟨j.val * 1024 + u.val, by omega⟩) := by
  have hf : ∀ z : S3456x6144.Idx, ∃ a : ℝ, V1 m ρ c main_v0 z = (a : EReal) := fun z => by
    obtain ⟨a, ha⟩ := hx (ix3 (n0 := 3) (n1 := 1152) (n2 := 6144) ⟨(z 0).val / 1152, by have : (z 0).val < 3456 := (z 0).isLt; omega⟩ ⟨(z 0).val % 1152, Nat.mod_lt _ (by decide)⟩ (z 1))
    have e := V1_v0 m ρ c (z 0) (z 1)
    rw [← eq_ix2 (n0 := 3456) (n1 := 6144) z] at e
    exact ⟨a, e.trans ha⟩
  refine (congrFun ((W2_arr m ρ c 2).trans (arr0 (V1 m ρ) c hf)) _).trans ?_
  rw [Cert.ReferenceIdeal.Val.rot_apply]
  have ej : (⟨(j.val * 1024 + u.val) / 1024, by omega⟩ : Fin 6) = j := Fin.ext (by show (j.val * 1024 + u.val) / 1024 = j.val; omega)
  have eu : (⟨(j.val * 1024 + u.val) % 1024, by omega⟩ : Fin 1024) = u := Fin.ext (by show (j.val * 1024 + u.val) % 1024 = u.val; omega)
  have ep : (⟨(p.val * 1152 + t.val) / 1152, by omega⟩ : Fin 3) = p := Fin.ext (by show (p.val * 1152 + t.val) / 1152 = p.val; omega)
  have et : (⟨(p.val * 1152 + t.val) % 1152, by omega⟩ : Fin 1152) = t := Fin.ext (by show (p.val * 1152 + t.val) % 1152 = t.val; omega)
  show rotArr (V1 m ρ c main_v0) (V1 m ρ c main_v1) (⟨p.val * 1152 + t.val, by omega⟩ : Fin 3456) (⟨(j.val * 1024 + u.val) / 1024, by omega⟩ : Fin 6) (⟨(j.val * 1024 + u.val) % 1024, by omega⟩ : Fin 1024) = _
  rw [ej, eu]
  unfold rotArr
  refine congrArg (· * _) (Finset.sum_congr rfl fun i _ => ?_)
  rw [V1_v0, V1_v1]
  simp only [ep, et]

theorem W2_v2_all (hx : ∀ z, ∃ a : ℝ, X m c z = (a : EReal)) (p : Fin 3) (t : Fin 1152) (k : Fin 6144) :
    W2 m ρ c (Proc.devRef .tc main_v2) (ix2 (n0 := 3456) (n1 := 6144) ⟨p.val * 1152 + t.val, by omega⟩ k)
      = Cert.ReferenceIdeal.Read.val_main_v25 (F := Ideal) (X m c) (Sg m c) (ix3 (n0 := 3) (n1 := 1152) (n2 := 6144) p t k) := by
  have e := W2_v2 m ρ c hx p t ⟨k.val / 1024, by omega⟩ ⟨k.val % 1024, Nat.mod_lt _ (by decide)⟩
  have ek : (⟨k.val / 1024 * 1024 + k.val % 1024, by omega⟩ : Fin 6144) = k := Fin.ext (by show k.val / 1024 * 1024 + k.val % 1024 = k.val; omega)
  simp only [ek] at e
  exact e

/-- The second result: the rotated activations. -/
theorem rot_result (hx : ∀ z, ∃ a : ℝ, X m c z = (a : EReal)) :
    W5 m ρ c (Proc.devRef .tc main_v34) = Cert.ReferenceIdeal.Read.val_main_v25 (F := Ideal) (X m c) (Sg m c) := by
  have h4 : W4 m ρ c (Proc.devRef .tc main_v2) = W2 m ρ c (Proc.devRef .tc main_v2) :=
    (W4_of m ρ c main_v2 (by decide)).trans (W3_of m ρ c main_v2 (by decide))
  refine funext fun (z : S3x1152x6144.Idx) => ?_
  rw [eq_ix3 (n0 := 3) (n1 := 1152) (n2 := 6144) z]
  exact (v34_apply (W4 m ρ c) (z 0) (z 1) (z 2)).trans ((congrFun h4 _).trans (W2_v2_all m ρ c hx (z 0) (z 1) (z 2)))

/-- The first result at an index: the product with the decoded weights. -/
theorem mm_result_at (hx : ∀ z, ∃ a : ℝ, X m c z = (a : EReal)) (p : Fin 3) (t : Fin 1152) (n : Fin 16384) :
    W5 m ρ c (Proc.devRef .tc main_v33) (ix3 (n0 := 3) (n1 := 1152) (n2 := 16384) p t n)
      = Cert.ReferenceIdeal.Read.val_main_v188 (F := Ideal) (X m c) (Sg m c) (Cb m c) (Q m c) (Sc m c) (ix3 (n0 := 3) (n1 := 1152) (n2 := 16384) p t n) := by
  have hT : ∀ (r : Fin 16) (l : Fin 128), V3 m ρ c main_v29 (ix2 (n0 := 16) (n1 := 128) r l) = pair (Cb m c) ⟨r.val / 8 * 128 + l.val, by omega⟩ := fun r l =>
    (v29_apply (W2 m ρ c) r l).trans (congrArg (fun b => pair b _) (W2_args m ρ c main_arg2 (by decide)))
  have hq : V3 m ρ c main_arg3 = Q m c := W3_args m ρ c main_arg3 (by decide)
  have ha : ∀ g : Fin 6, V3 m ρ c main_v31 (ix2 (n0 := 6) (n1 := 16384) g n) = Sc m c (ix2 (n0 := 16384) (n1 := 6) n g) := fun g =>
    (v31_apply (W2 m ρ c) g n).trans (congrFun (W2_args m ρ c main_arg4 (by decide)) _)
  have hX : ∀ k : Fin 6144, V3 m ρ c main_v2 (ix2 (n0 := 3456) (n1 := 6144) ⟨p.val * 1152 + t.val, by omega⟩ k)
      = Cert.ReferenceIdeal.Read.val_main_v25 (F := Ideal) (X m c) (Sg m c) (ix3 (n0 := 3) (n1 := 1152) (n2 := 6144) p t k) := fun k =>
    (congrFun (W3_of m ρ c main_v2 (by decide)) _).trans (W2_v2_all m ρ c hx p t k)
  refine (v33_apply (W4 m ρ c) p t n).trans ((congrFun ((W4_arr m ρ c 4).trans (arr1 (V3 m ρ) c _ hT)) _).trans ?_)
  show mmArr (V3 m ρ c main_v2) (pair (Cb m c)) (V3 m ρ c main_arg3) (V3 m ρ c main_v31) (⟨p.val * 1152 + t.val, by omega⟩ : Fin 3456) n = _
  rw [hq, Cert.ReferenceIdeal.Val.y_apply]
  unfold mmArr
  rw [sum_split]
  refine congrArg₂ (· + ·) (Finset.sum_congr rfl fun g _ => Finset.sum_congr rfl fun b _ => ?_) (Finset.sum_congr rfl fun g _ => Finset.sum_congr rfl fun b _ => ?_)
  · rw [hX, ha]
    have e2 : (⟨(g.val * 1024 + b.val * 2) / 2, by omega⟩ : Fin 3072) = ⟨g.val * 512 + b.val, by omega⟩ := Fin.ext (by show (g.val * 1024 + b.val * 2) / 2 = g.val * 512 + b.val; omega)
    have e6 : (⟨(g.val * 1024 + b.val * 2) / 1024, by omega⟩ : Fin 6) = g := Fin.ext (by show (g.val * 1024 + b.val * 2) / 1024 = g.val; omega)
    have eh : 16 * ((g.val * 1024 + b.val * 2) % 2) = 0 := by omega
    simp only [e2, e6, eh, pair_low, Cert.ReferenceIdeal.Val.cp]
  · rw [hX, ha]
    have e2 : (⟨(g.val * 1024 + b.val * 2 + 1) / 2, by omega⟩ : Fin 3072) = ⟨g.val * 512 + b.val, by omega⟩ := Fin.ext (by show (g.val * 1024 + b.val * 2 + 1) / 2 = g.val * 512 + b.val; omega)
    have e6 : (⟨(g.val * 1024 + b.val * 2 + 1) / 1024, by omega⟩ : Fin 6) = g := Fin.ext (by show (g.val * 1024 + b.val * 2 + 1) / 1024 = g.val; omega)
    have eh : 16 * ((g.val * 1024 + b.val * 2 + 1) % 2) = 16 := by omega
    simp only [e2, e6, eh, pair_high, Cert.ReferenceIdeal.Val.cp]

/-- The first result: the product with the decoded weights. -/
theorem mm_result (hx : ∀ z, ∃ a : ℝ, X m c z = (a : EReal)) :
    W5 m ρ c (Proc.devRef .tc main_v33) = Cert.ReferenceIdeal.Read.val_main_v188 (F := Ideal) (X m c) (Sg m c) (Cb m c) (Q m c) (Sc m c) := by
  refine funext fun (z : S3x1152x16384.Idx) => ?_
  rw [eq_ix3 (n0 := 3) (n1 := 1152) (n2 := 16384) z]
  exact mm_result_at m ρ c hx (z 0) (z 1) (z 2)

/-- The precondition says that every activation is a real number. -/
theorem finite_of_pre (hp : Pre_KernelIdeal_x_finite (hPre_x_finite := Cert.Pre_x_finite.Gen.facts) m) : ∀ z, ∃ a : ℝ, X m c z = (a : EReal) := by
  intro z
  have h := congrFun (hp c) z
  have h' : Ideal.cmp .olt (max (X m c z) (-(X m c z))) (Ideal.ofBits .bf16 0x7F80#16) = 1#1 := h
  have ht : Ideal.ofBits .bf16 0x7F80#16 = (⊤ : EReal) := by simp [Ideal.ofBits, Ideal.ieee]
  rw [ht] at h'
  generalize X m c z = e at h' ⊢
  induction e using EReal.rec with
  | bot => simp [Ideal.cmp] at h'
  | top => simp [Ideal.cmp] at h'
  | coe a => exact ⟨a, rfl⟩

/-- From memories with the same arguments, where every activation is a real number, the two programs end with the same results. -/
theorem algebraic : algebraic_KernelIdeal_ReferenceIdeal_pre_x_finite (hKernelIdeal := Cert.KernelIdeal.Gen.facts)
    (hReferenceIdeal := Cert.ReferenceIdeal.Gen.facts) (hPre_x_finite := Cert.Pre_x_finite.Gen.facts) := by
  intro m g m' g' hp hargs
  have hx := fun c => finite_of_pre m c hp
  refine ⟨fun c => W5 m g c (Proc.devRef .tc main_v33), fun c => W5 m g c (Proc.devRef .tc main_v34), ?_, ?_⟩
  · refine (θ_run _ _ _).mono (fun r h c => ?_) (run_all m g)
    have hm := fun b hb => h.1 c (Proc.devRef .tc b) (mem_uc b hb)
    exact ⟨hm main_v33 (by decide), hm main_v34 (by decide),
      (hm main_arg0 (by decide)).trans (W5_main_arg0 m g c), (hm main_arg1 (by decide)).trans (W5_main_arg1 m g c),
      (hm main_arg2 (by decide)).trans (W5_main_arg2 m g c), (hm main_arg3 (by decide)).trans (W5_main_arg3 m g c),
      (hm main_arg4 (by decide)).trans (W5_main_arg4 m g c)⟩
  · refine (θ_run _ _ _).mono (fun r h c => ?_) (Cert.ReferenceIdeal.Value.run m' g')
    obtain ⟨a0, a1, a2, a3, a4⟩ := hargs c
    refine ⟨(h c).1.trans ?_, (h c).2.1.trans ?_, (h c).2.2⟩
    · refine (Cert.ReferenceIdeal.Read.val_main_v188_eq (StableHlo.launchContents m' c)).trans ?_
      refine (show _ = Cert.ReferenceIdeal.Read.val_main_v188 (m' (c.tc.loc Cert.ReferenceIdeal.main_arg0))
        (m' (c.tc.loc Cert.ReferenceIdeal.main_arg1)) (m' (c.tc.loc Cert.ReferenceIdeal.main_arg2))
        (m' (c.tc.loc Cert.ReferenceIdeal.main_arg3)) (m' (c.tc.loc Cert.ReferenceIdeal.main_arg4)) from rfl).trans ?_
      rw [a0, a1, a2, a3, a4]
      exact (mm_result m g c (hx c)).symm
    · refine (Cert.ReferenceIdeal.Read.val_main_v25_eq (StableHlo.launchContents m' c)).trans ?_
      refine (show _ = Cert.ReferenceIdeal.Read.val_main_v25 (m' (c.tc.loc Cert.ReferenceIdeal.main_arg0))
        (m' (c.tc.loc Cert.ReferenceIdeal.main_arg1)) from rfl).trans ?_
      rw [a0, a1]
      exact (rot_result m g c (hx c)).symm

end Cert.Value

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_x_finite
public import proofs.«01_k».proof.Proof.Gen.Kernel.Launch
public import proofs.«01_k».proof.Proof.Gen.Kernel.Points
public import proofs.«01_k».proof.Proof.Gen.KernelIdeal.Launch
public import proofs.«01_k».proof.Proof.Gen.KernelIdeal.Points
public import proofs.«01_k».proof.Proof.RunI
public import proofs.«01_k».proof.Proof.RunK
public import proofs.«01_k».proof.Proof.RefFrame
public import proofs.«01_k».proof.Proof.Value

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_x_finite.Gen.facts, by
  exact ⟨fun m ρ _ => Cert.Kernel.Run.frame m ρ, fun m ρ _ => Cert.KernelIdeal.Run.frame m ρ, fun m ρ _ => Cert.KernelIdeal.Run.frame m ρ,
    fun m ρ _ => Cert.RefFrame.frame m ρ, fun m ρ _ => Cert.RefFrame.frame m ρ, trivial, Cert.Value.algebraic⟩⟩

end Cert.Proof

end
